-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvIdeal_finite [hPre_finite : Cert.Pre_finite.Facts] (m : (ℓ : Loc Cert.RwkvIdeal.nD Cert.RwkvIdeal.τ Cert.RwkvIdeal.sig) → Buf (Elt Ideal) ℓ) : Prop :=
  ∀ c : Dev Cert.RwkvIdeal.nD,
    (Cert.Pre_finite.fn (F := Ideal) (m ((c.tc : Thread Cert.RwkvIdeal.nD Cert.RwkvIdeal.τ).loc Cert.RwkvIdeal.main_arg0)) (m ((c.tc : Thread Cert.RwkvIdeal.nD Cert.RwkvIdeal.τ).loc Cert.RwkvIdeal.main_arg1)) (m ((c.tc : Thread Cert.RwkvIdeal.nD Cert.RwkvIdeal.τ).loc Cert.RwkvIdeal.main_arg2)) (m ((c.tc : Thread Cert.RwkvIdeal.nD Cert.RwkvIdeal.τ).loc Cert.RwkvIdeal.main_arg3)) (m ((c.tc : Thread Cert.RwkvIdeal.nD Cert.RwkvIdeal.τ).loc Cert.RwkvIdeal.main_arg4)) (m ((c.tc : Thread Cert.RwkvIdeal.nD Cert.RwkvIdeal.τ).loc Cert.RwkvIdeal.main_arg5)) (m ((c.tc : Thread Cert.RwkvIdeal.nD Cert.RwkvIdeal.τ).loc Cert.RwkvIdeal.main_arg6)) (m ((c.tc : Thread Cert.RwkvIdeal.nD Cert.RwkvIdeal.τ).loc Cert.RwkvIdeal.main_arg7)) (m ((c.tc : Thread Cert.RwkvIdeal.nD Cert.RwkvIdeal.τ).loc Cert.RwkvIdeal.main_arg8)) (m ((c.tc : Thread Cert.RwkvIdeal.nD Cert.RwkvIdeal.τ).loc Cert.RwkvIdeal.main_arg9)) (m ((c.tc : Thread Cert.RwkvIdeal.nD Cert.RwkvIdeal.τ).loc Cert.RwkvIdeal.main_arg10)) (m ((c.tc : Thread Cert.RwkvIdeal.nD Cert.RwkvIdeal.τ).loc Cert.RwkvIdeal.main_arg11))) = (fun _ => 1#1)

def Pre_RwkvRefIdeal (m : (ℓ : Loc Cert.RwkvRefIdeal.nD Cert.RwkvRefIdeal.τ Cert.RwkvRefIdeal.sig) → Buf (Elt Ideal) ℓ) : Prop :=
  True

def Pre_RwkvRefIdeal_finite [hPre_finite : Cert.Pre_finite.Facts] (m : (ℓ : Loc Cert.RwkvRefIdeal.nD Cert.RwkvRefIdeal.τ Cert.RwkvRefIdeal.sig) → Buf (Elt Ideal) ℓ) : Prop :=
  ∀ c : Dev Cert.RwkvRefIdeal.nD,
    (Cert.Pre_finite.fn (F := Ideal) (m ((c.tc : Thread Cert.RwkvRefIdeal.nD Cert.RwkvRefIdeal.τ).loc Cert.RwkvRefIdeal.main_arg0)) (m ((c.tc : Thread Cert.RwkvRefIdeal.nD Cert.RwkvRefIdeal.τ).loc Cert.RwkvRefIdeal.main_arg1)) (m ((c.tc : Thread Cert.RwkvRefIdeal.nD Cert.RwkvRefIdeal.τ).loc Cert.RwkvRefIdeal.main_arg2)) (m ((c.tc : Thread Cert.RwkvRefIdeal.nD Cert.RwkvRefIdeal.τ).loc Cert.RwkvRefIdeal.main_arg3)) (m ((c.tc : Thread Cert.RwkvRefIdeal.nD Cert.RwkvRefIdeal.τ).loc Cert.RwkvRefIdeal.main_arg4)) (m ((c.tc : Thread Cert.RwkvRefIdeal.nD Cert.RwkvRefIdeal.τ).loc Cert.RwkvRefIdeal.main_arg5)) (m ((c.tc : Thread Cert.RwkvRefIdeal.nD Cert.RwkvRefIdeal.τ).loc Cert.RwkvRefIdeal.main_arg6)) (m ((c.tc : Thread Cert.RwkvRefIdeal.nD Cert.RwkvRefIdeal.τ).loc Cert.RwkvRefIdeal.main_arg7)) (m ((c.tc : Thread Cert.RwkvRefIdeal.nD Cert.RwkvRefIdeal.τ).loc Cert.RwkvRefIdeal.main_arg8)) (m ((c.tc : Thread Cert.RwkvRefIdeal.nD Cert.RwkvRefIdeal.τ).loc Cert.RwkvRefIdeal.main_arg9)) (m ((c.tc : Thread Cert.RwkvRefIdeal.nD Cert.RwkvRefIdeal.τ).loc Cert.RwkvRefIdeal.main_arg10)) (m ((c.tc : Thread Cert.RwkvRefIdeal.nD Cert.RwkvRefIdeal.τ).loc Cert.RwkvRefIdeal.main_arg11))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvIdeal_pre_finite [hRwkvIdeal : Cert.RwkvIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal_finite m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11))
      ∧ r.2.sem = fun _ => 0)

def quiescent_RwkvRefIdeal_pre_finite [hRwkvRefIdeal : Cert.RwkvRefIdeal.Facts] [hPre_finite : Cert.Pre_finite.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal_finite m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v16) = v0 c
          ∧ r.2.mem ((c.tc : Thread Cert.InprojRefIdeal.nD Cert.InprojRefIdeal.τ).loc Cert.InprojRefIdeal.main_v17) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Rwkv_RwkvIdeal : Prop :=
  True

def algebraic_RwkvIdeal_RwkvRefIdeal_pre_finite [hRwkvIdeal : Cert.RwkvIdeal.Facts] [hRwkvRefIdeal : Cert.RwkvRefIdeal.Facts] [hPre_finite : Cert.Pre_finite.Facts] : Prop :=
  ∀ (m : (ℓ : Loc Cert.RwkvIdeal.nD Cert.RwkvIdeal.τ Cert.RwkvIdeal.sig) → Buf (Elt Ideal) ℓ) (g : Dev Cert.RwkvIdeal.nD → PrngReg)
    (m' : (ℓ : Loc Cert.RwkvRefIdeal.nD Cert.RwkvRefIdeal.τ Cert.RwkvRefIdeal.sig) → Buf (Elt Ideal) ℓ) (g' : Dev Cert.RwkvRefIdeal.nD → PrngReg), Pre_RwkvIdeal_finite m →
    (∀ c : Dev Cert.RwkvIdeal.nD,
      m' ((c.tc : Thread Cert.RwkvRefIdeal.nD Cert.RwkvRefIdeal.τ).loc Cert.RwkvRefIdeal.main_arg0) = m ((c.tc : Thread Cert.RwkvIdeal.nD Cert.RwkvIdeal.τ).loc Cert.RwkvIdeal.main_arg0)
      ∧ m' ((c.tc : Thread Cert.RwkvRefIdeal.nD Cert.RwkvRefIdeal.τ).loc Cert.RwkvRefIdeal.main_arg1) = m ((c.tc : Thread Cert.RwkvIdeal.nD Cert.RwkvIdeal.τ).loc Cert.RwkvIdeal.main_arg1)
      ∧ m' ((c.tc : Thread Cert.RwkvRefIdeal.nD Cert.RwkvRefIdeal.τ).loc Cert.RwkvRefIdeal.main_arg2) = m ((c.tc : Thread Cert.RwkvIdeal.nD Cert.RwkvIdeal.τ).loc Cert.RwkvIdeal.main_arg2)
      ∧ m' ((c.tc : Thread Cert.RwkvRefIdeal.nD Cert.RwkvRefIdeal.τ).loc Cert.RwkvRefIdeal.main_arg3) = m ((c.tc : Thread Cert.RwkvIdeal.nD Cert.RwkvIdeal.τ).loc Cert.RwkvIdeal.main_arg3)
      ∧ m' ((c.tc : Thread Cert.RwkvRefIdeal.nD Cert.RwkvRefIdeal.τ).loc Cert.RwkvRefIdeal.main_arg4) = m ((c.tc : Thread Cert.RwkvIdeal.nD Cert.RwkvIdeal.τ).loc Cert.RwkvIdeal.main_arg4)
      ∧ m' ((c.tc : Thread Cert.RwkvRefIdeal.nD Cert.RwkvRefIdeal.τ).loc Cert.RwkvRefIdeal.main_arg5) = m ((c.tc : Thread Cert.RwkvIdeal.nD Cert.RwkvIdeal.τ).loc Cert.RwkvIdeal.main_arg5)
      ∧ m' ((c.tc : Thread Cert.RwkvRefIdeal.nD Cert.RwkvRefIdeal.τ).loc Cert.RwkvRefIdeal.main_arg6) = m ((c.tc : Thread Cert.RwkvIdeal.nD Cert.RwkvIdeal.τ).loc Cert.RwkvIdeal.main_arg6)
      ∧ m' ((c.tc : Thread Cert.RwkvRefIdeal.nD Cert.RwkvRefIdeal.τ).loc Cert.RwkvRefIdeal.main_arg7) = m ((c.tc : Thread Cert.RwkvIdeal.nD Cert.RwkvIdeal.τ).loc Cert.RwkvIdeal.main_arg7)
      ∧ m' ((c.tc : Thread Cert.RwkvRefIdeal.nD Cert.RwkvRefIdeal.τ).loc Cert.RwkvRefIdeal.main_arg8) = m ((c.tc : Thread Cert.RwkvIdeal.nD Cert.RwkvIdeal.τ).loc Cert.RwkvIdeal.main_arg8)
      ∧ m' ((c.tc : Thread Cert.RwkvRefIdeal.nD Cert.RwkvRefIdeal.τ).loc Cert.RwkvRefIdeal.main_arg9) = m ((c.tc : Thread Cert.RwkvIdeal.nD Cert.RwkvIdeal.τ).loc Cert.RwkvIdeal.main_arg9)
      ∧ m' ((c.tc : Thread Cert.RwkvRefIdeal.nD Cert.RwkvRefIdeal.τ).loc Cert.RwkvRefIdeal.main_arg10) = m ((c.tc : Thread Cert.RwkvIdeal.nD Cert.RwkvIdeal.τ).loc Cert.RwkvIdeal.main_arg10)
      ∧ m' ((c.tc : Thread Cert.RwkvRefIdeal.nD Cert.RwkvRefIdeal.τ).loc Cert.RwkvRefIdeal.main_arg11) = m ((c.tc : Thread Cert.RwkvIdeal.nD Cert.RwkvIdeal.τ).loc Cert.RwkvIdeal.main_arg11)) →
    ∃ (v0 : (c : Dev Cert.RwkvIdeal.nD) → Buf (Elt Ideal) ((c.tc : Thread Cert.RwkvIdeal.nD Cert.RwkvIdeal.τ).loc Cert.RwkvIdeal.main_v7)),
      θ_run (Cert.RwkvIdeal.defs (F := Ideal)) (onTc (τ := Cert.RwkvIdeal.τ) (Cert.RwkvIdeal.main (F := Ideal))) ⟨m, fun _ => 0, g⟩ (fun r => ∀ c : Dev Cert.RwkvIdeal.nD,
          r.2.mem ((c.tc : Thread Cert.RwkvIdeal.nD Cert.RwkvIdeal.τ).loc Cert.RwkvIdeal.main_v7) = v0 c
          ∧ r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
          ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
          ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
          ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
          ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
          ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
          ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
          ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
          ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
          ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
          ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
          ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ θ_run (Cert.RwkvRefIdeal.defs (F := Ideal)) (onTc (τ := Cert.RwkvRefIdeal.τ) (Cert.RwkvRefIdeal.main (F := Ideal))) ⟨m', fun _ => 0, g'⟩ (fun r => ∀ c : Dev Cert.RwkvRefIdeal.nD,
          r.2.mem ((c.tc : Thread Cert.RwkvRefIdeal.nD Cert.RwkvRefIdeal.τ).loc Cert.RwkvRefIdeal.main_v146) = v0 c
          ∧ r.2.mem ((c.tc : Thread Cert.RwkvRefIdeal.nD Cert.RwkvRefIdeal.τ).loc Cert.RwkvRefIdeal.main_arg0) = m' ((c.tc : Thread Cert.RwkvRefIdeal.nD Cert.RwkvRefIdeal.τ).loc Cert.RwkvRefIdeal.main_arg0)
          ∧ r.2.mem ((c.tc : Thread Cert.RwkvRefIdeal.nD Cert.RwkvRefIdeal.τ).loc Cert.RwkvRefIdeal.main_arg1) = m' ((c.tc : Thread Cert.RwkvRefIdeal.nD Cert.RwkvRefIdeal.τ).loc Cert.RwkvRefIdeal.main_arg1)
          ∧ r.2.mem ((c.tc : Thread Cert.RwkvRefIdeal.nD Cert.RwkvRefIdeal.τ).loc Cert.RwkvRefIdeal.main_arg2) = m' ((c.tc : Thread Cert.RwkvRefIdeal.nD Cert.RwkvRefIdeal.τ).loc Cert.RwkvRefIdeal.main_arg2)
          ∧ r.2.mem ((c.tc : Thread Cert.RwkvRefIdeal.nD Cert.RwkvRefIdeal.τ).loc Cert.RwkvRefIdeal.main_arg3) = m' ((c.tc : Thread Cert.RwkvRefIdeal.nD Cert.RwkvRefIdeal.τ).loc Cert.RwkvRefIdeal.main_arg3)
          ∧ r.2.mem ((c.tc : Thread Cert.RwkvRefIdeal.nD Cert.RwkvRefIdeal.τ).loc Cert.RwkvRefIdeal.main_arg4) = m' ((c.tc : Thread Cert.RwkvRefIdeal.nD Cert.RwkvRefIdeal.τ).loc Cert.RwkvRefIdeal.main_arg4)
          ∧ r.2.mem ((c.tc : Thread Cert.RwkvRefIdeal.nD Cert.RwkvRefIdeal.τ).loc Cert.RwkvRefIdeal.main_arg5) = m' ((c.tc : Thread Cert.RwkvRefIdeal.nD Cert.RwkvRefIdeal.τ).loc Cert.RwkvRefIdeal.main_arg5)
          ∧ r.2.mem ((c.tc : Thread Cert.RwkvRefIdeal.nD Cert.RwkvRefIdeal.τ).loc Cert.RwkvRefIdeal.main_arg6) = m' ((c.tc : Thread Cert.RwkvRefIdeal.nD Cert.RwkvRefIdeal.τ).loc Cert.RwkvRefIdeal.main_arg6)
          ∧ r.2.mem ((c.tc : Thread Cert.RwkvRefIdeal.nD Cert.RwkvRefIdeal.τ).loc Cert.RwkvRefIdeal.main_arg7) = m' ((c.tc : Thread Cert.RwkvRefIdeal.nD Cert.RwkvRefIdeal.τ).loc Cert.RwkvRefIdeal.main_arg7)
          ∧ r.2.mem ((c.tc : Thread Cert.RwkvRefIdeal.nD Cert.RwkvRefIdeal.τ).loc Cert.RwkvRefIdeal.main_arg8) = m' ((c.tc : Thread Cert.RwkvRefIdeal.nD Cert.RwkvRefIdeal.τ).loc Cert.RwkvRefIdeal.main_arg8)
          ∧ r.2.mem ((c.tc : Thread Cert.RwkvRefIdeal.nD Cert.RwkvRefIdeal.τ).loc Cert.RwkvRefIdeal.main_arg9) = m' ((c.tc : Thread Cert.RwkvRefIdeal.nD Cert.RwkvRefIdeal.τ).loc Cert.RwkvRefIdeal.main_arg9)
          ∧ r.2.mem ((c.tc : Thread Cert.RwkvRefIdeal.nD Cert.RwkvRefIdeal.τ).loc Cert.RwkvRefIdeal.main_arg10) = m' ((c.tc : Thread Cert.RwkvRefIdeal.nD Cert.RwkvRefIdeal.τ).loc Cert.RwkvRefIdeal.main_arg10)
          ∧ r.2.mem ((c.tc : Thread Cert.RwkvRefIdeal.nD Cert.RwkvRefIdeal.τ).loc Cert.RwkvRefIdeal.main_arg11) = m' ((c.tc : Thread Cert.RwkvRefIdeal.nD Cert.RwkvRefIdeal.τ).loc Cert.RwkvRefIdeal.main_arg11))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hRwkv : Cert.Rwkv.Facts) (hRwkvIdeal : Cert.RwkvIdeal.Facts) (hRwkvRefIdeal : Cert.RwkvRefIdeal.Facts) (hPre_finite : Cert.Pre_finite.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Rwkv (hRwkv := hRwkv)
    ∧ quiescent_RwkvIdeal (hRwkvIdeal := hRwkvIdeal)
    ∧ quiescent_RwkvIdeal_pre_finite (hRwkvIdeal := hRwkvIdeal) (hPre_finite := hPre_finite)
    ∧ quiescent_RwkvRefIdeal (hRwkvRefIdeal := hRwkvRefIdeal)
    ∧ quiescent_RwkvRefIdeal_pre_finite (hRwkvRefIdeal := hRwkvRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Rwkv_RwkvIdeal
    ∧ algebraic_RwkvIdeal_RwkvRefIdeal_pre_finite (hRwkvIdeal := hRwkvIdeal) (hRwkvRefIdeal := hRwkvRefIdeal) (hPre_finite := hPre_finite)
-- ==== Pre_finite.lean ====
abbrev S32x2048x1792 : Shape := ⟨3, ![32, 2048, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S8x64 : Shape := ⟨2, ![8, 64]⟩
abbrev S32x2048x1536 : Shape := ⟨3, ![32, 2048, 1536]⟩
abbrev S_ : Shape := ⟨0, ![]⟩
abbrev S1x1536 : Shape := ⟨2, ![1, 1536]⟩

class Facts : Prop where
  slices_S32x2048x1792_S32x2048x1536_0_0_0 : S32x2048x1792.Slices ![0, 0, 0] S32x2048x1536
  bcast_S_S32x2048x1536 : S_.BroadcastsInDim S32x2048x1536 (![] : Fin 0 → Fin S32x2048x1536.rank)
  reducesTo_S32x2048x1536_S_d0_1_2 : S32x2048x1536.ReducesTo [0, 1, 2] S_
  h_S_ : 0 < S_.numel
  slices_S1x1792_S1x1536_0_0 : S1x1792.Slices ![0, 0] S1x1536
  bcast_S_S1x1536 : S_.BroadcastsInDim S1x1536 (![] : Fin 0 → Fin S1x1536.rank)
  reducesTo_S1x1536_S_d0_1 : S1x1536.ReducesTo [0, 1] S_
  bcast_S_S1x512 : S_.BroadcastsInDim S1x512 (![] : Fin 0 → Fin S1x512.rank)
  reducesTo_S1x512_S_d0_1 : S1x512.ReducesTo [0, 1] S_

variable [Facts]

def fn {F : FTy → Type} [FloatOps F] (main_arg0 : FVec F S32x2048x1792 .f32) (main_arg1 : FVec F S1x1792 .f32) (main_arg2 : FVec F S1x512 .f32) (main_arg3 : FVec F S64x512 .f32) (main_arg4 : FVec F S1x512 .f32) (main_arg5 : FVec F S64x512 .f32) (main_arg6 : FVec F S128x512 .f32) (main_arg7 : FVec F S1x512 .f32) (main_arg8 : FVec F S1x512 .f32) (main_arg9 : FVec F S8x64 .f32) (main_arg10 : FVec F S1x512 .f32) (main_arg11 : FVec F S1x512 .f32) : IVec S_ 1 :=
  let main_v0 : FVec F S32x2048x1536 .f32 := (extractStridedSlice S32x2048x1536 ![0, 0, 0] · slices_S32x2048x1792_S32x2048x1536_0_0_0) main_arg0
  let main_v1 : FVec F S32x2048x1536 .f32 := Host.absf main_v0
  let main_cst : FVec F S_ .f32 := constant S_ .f32 0x7F800000#32
  let main_v2 : FVec F S32x2048x1536 .f32 := broadcastInDim S32x2048x1536 ![] bcast_S_S32x2048x1536 main_cst
  let main_v3 : IVec S32x2048x1536 1 := cmpf .olt main_v1 main_v2
  let main_c : IVec S_ 1 := constantI S_ 1 1#1
  let main_v4 : IVec S_ 1 := (fun x v => Host.reduce IntOp.andi x v reducesTo_S32x2048x1536_S_d0_1_2 h_S_) main_v3 main_c
  let main_v5 : FVec F S1x1536 .f32 := (extractStridedSlice S1x1536 ![0, 0] · slices_S1x1792_S1x1536_0_0) main_arg1
  let main_v6 : FVec F S1x1536 .f32 := Host.absf main_v5
  let main_cst_0 : FVec F S_ .f32 := constant S_ .f32 0x7F800000#32
  let main_v7 : FVec F S1x1536 .f32 := broadcastInDim S1x1536 ![] bcast_S_S1x1536 main_cst_0
  let main_v8 : IVec S1x1536 1 := cmpf .olt main_v6 main_v7
  let main_c_1 : IVec S_ 1 := constantI S_ 1 1#1
  let main_v9 : IVec S_ 1 := (fun x v => Host.reduce IntOp.andi x v reducesTo_S1x1536_S_d0_1 h_S_) main_v8 main_c_1
  let main_v10 : IVec S_ 1 := andi main_v4 main_v9
  let main_v11 : FVec F S1x512 .f32 := Host.absf main_arg8
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_c_3 : IVec S_ 1 := constantI S_ 1 1#1
  let main_v14 : IVec S_ 1 := (fun x v => Host.reduce IntOp.andi x v reducesTo_S1x512_S_d0_1 h_S_) main_v13 main_c_3
  let main_v15 : IVec S_ 1 := andi main_v10 main_v14
  main_v15
-- ==== Ffn.lean ====
abbrev S2048x32x512 : Shape := ⟨3, ![2048, 32, 512]⟩
abbrev S32x2048x512 : Shape := ⟨3, ![32, 2048, 512]⟩
abbrev S32x2048x1024 : Shape := ⟨3, ![32, 2048, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S2048x16384 : Shape := ⟨2, ![2048, 16384]⟩
abbrev S512x512 : Shape := ⟨2, ![512, 512]⟩
abbrev S1x512x512 : Shape := ⟨3, ![1, 512, 512]⟩
abbrev S1x512x1024 : Shape := ⟨3, ![1, 512, 1024]⟩
abbrev S256x512 : Shape := ⟨2, ![256, 512]⟩
abbrev S512x1024 : Shape := ⟨2, ![512, 1024]⟩
abbrev S256x1024 : Shape := ⟨2, ![256, 1024]⟩
abbrev S1x256x512 : Shape := ⟨3, ![1, 256, 512]⟩
abbrev S1x256x1024 : Shape := ⟨3, ![1, 256, 1024]⟩
abbrev S256 : Shape := ⟨1, ![256]⟩
abbrev S256x1 : Shape := ⟨2, ![256, 1]⟩
abbrev S256x4096 : Shape := ⟨2, ![256, 4096]⟩

abbrev nBuf : Space → Nat
  | .hbm => 14
  | .vmem => 14
  | .smem => 0
  | _ => 0

abbrev bufTy : (tb : Table) → Fin (tcTables nBuf tb) → BufTy
  | .hbm, ⟨0, _⟩ => ⟨S2048x32x512, .f32⟩
  | .hbm, ⟨1, _⟩ => ⟨S32x2048x512, .f32⟩
  | .hbm, ⟨2, _⟩ => ⟨S32x2048x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S1024x1024, .bf16⟩
  | .hbm, ⟨10, _⟩ => ⟨S1024x4096, .bf16⟩
  | .hbm, ⟨11, _⟩ => ⟨S4096x1024, .bf16⟩
  | .hbm, ⟨12, _⟩ => ⟨S2048x16384, .f32⟩
  | .hbm, ⟨13, _⟩ => ⟨S32x2048x1024, .f32⟩
  | .local _ .vmem, ⟨0, _⟩ => ⟨S512x512, .f32⟩
  | .local _ .vmem, ⟨1, _⟩ => ⟨S512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S4096x1024, .bf16⟩
  | .local _ .vmem, ⟨11, _⟩ => ⟨S1x1024, .f32⟩
  | .local _ .vmem, ⟨12, _⟩ => ⟨S1x512x1024, .f32⟩
  | .local _ .vmem, ⟨13, _⟩ => ⟨S1x512x1024, .f32⟩
  | _, _ => ⟨S2048x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4096x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnRefIdeal.lean ====
abbrev S2048x32x512 : Shape := ⟨3, ![2048, 32, 512]⟩
abbrev S32x2048x512 : Shape := ⟨3, ![32, 2048, 512]⟩
abbrev S32x2048x1024 : Shape := ⟨3, ![32, 2048, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x4096 : Shape := ⟨3, ![32, 2048, 4096]⟩

abbrev nBuf : Space → Nat
  | .hbm => 68
  | .vmem => 0
  | .smem => 0
  | _ => 0

abbrev bufTy : (tb : Table) → Fin (tcTables nBuf tb) → BufTy
  | .hbm, ⟨0, _⟩ => ⟨S2048x32x512, .f32⟩
  | .hbm, ⟨1, _⟩ => ⟨S32x2048x512, .f32⟩
  | .hbm, ⟨2, _⟩ => ⟨S32x2048x1024, .f32⟩
  | .hbm, ⟨3, _⟩ => ⟨S1024x1024, .f32⟩
  | .hbm, ⟨4, _⟩ => ⟨S1x1024, .f32⟩
  | .hbm, ⟨5, _⟩ => ⟨S1x1024, .f32⟩
  | .hbm, ⟨6, _⟩ => ⟨S1024x4096, .f32⟩
  | .hbm, ⟨7, _⟩ => ⟨S4096x1024, .f32⟩
  | .hbm, ⟨8, _⟩ => ⟨S1x1024, .f32⟩
  | .hbm, ⟨9, _⟩ => ⟨S32x2048x512, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S_, .f32⟩
  | .hbm, ⟨17, _⟩ => ⟨S32x2048x1, .f32⟩
  | .hbm, ⟨18, _⟩ => ⟨S32x2048x1, .f32⟩
  | .hbm, ⟨19, _⟩ => ⟨S_, .f32⟩
  | .hbm, ⟨20, _⟩ => ⟨S32x2048x1, .f32⟩
  | .hbm, ⟨21, _⟩ => ⟨S32x2048x1, .f32⟩
  | .hbm, ⟨22, _⟩ => ⟨S32x2048x1, .f32⟩
  | .hbm, ⟨23, _⟩ => ⟨S32x2048x1024, .f32⟩
  | .hbm, ⟨24, _⟩ => ⟨S32x2048x1024, .f32⟩
  | .hbm, ⟨25, _⟩ => ⟨S1x1x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | .hbm, ⟨30, _⟩ => ⟨S_, .f32⟩
  | .hbm, ⟨31, _⟩ => ⟨S32x2048, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S_, .f32⟩
  | .hbm, ⟨37, _⟩ => ⟨S32x2048x1, .f32⟩
  | .hbm, ⟨38, _⟩ => ⟨S32x2048x1, .f32⟩
  | .hbm, ⟨39, _⟩ => ⟨S32x2048x1, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | .hbm, ⟨45, _⟩ => ⟨S32x2048x4096, .f32⟩
  | .hbm, ⟨46, _⟩ => ⟨S_, .f32⟩
  | .hbm, ⟨47, _⟩ => ⟨S32x2048x4096, .f32⟩
  | .hbm, ⟨48, _⟩ => ⟨S32x2048x4096, .f32⟩
  | .hbm, ⟨49, _⟩ => ⟨S32x2048x4096, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | _, _ => ⟨S2048x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_cst : Ref sig .tc := ⟨.hbm, 46, rfl⟩
abbrev main_call0_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Inproj.lean ====
abbrev S32x2048x1024 : Shape := ⟨3, ![32, 2048, 1024]⟩
abbrev S1x1024 : Shape := ⟨2, ![1, 1024]⟩
abbrev S1024x2304 : Shape := ⟨2, ![1024, 2304]⟩
abbrev S2048x16384 : Shape := ⟨2, ![2048, 16384]⟩
abbrev S32x2048x1792 : Shape := ⟨3, ![32, 2048, 1792]⟩
abbrev S1x512x1024 : Shape := ⟨3, ![1, 512, 1024]⟩
abbrev S512x512 : Shape := ⟨2, ![512, 512]⟩
abbrev S1x512x1792 : Shape := ⟨3, ![1, 512, 1792]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S512x1792 : Shape := ⟨2, ![512, 1792]⟩

abbrev nBuf : Space → Nat
  | .hbm => 6
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1024x2304, .f32⟩
  | .hbm, ⟨3, _⟩ => ⟨S1024x2304, .bf16⟩
  | .hbm, ⟨4, _⟩ => ⟨S2048x16384, .f32⟩
  | .hbm, ⟨5, _⟩ => ⟨S32x2048x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S512x512, .f32⟩
  | .local _ .vmem, ⟨5, _⟩ => ⟨S512x512, .f32⟩
  | .local _ .vmem, ⟨6, _⟩ => ⟨S1x512x1792, .f32⟩
  | .local _ .vmem, ⟨7, _⟩ => ⟨S1x512x1792, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InprojRefIdeal.lean ====
abbrev S32x2048x1024 : Shape := ⟨3, ![32, 2048, 1024]⟩
abbrev S1x1024 : Shape := ⟨2, ![1, 1024]⟩
abbrev S1024x2304 : Shape := ⟨2, ![1024, 2304]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2304 : Shape := ⟨3, ![32, 2048, 2304]⟩
abbrev S32x2048x512 : Shape := ⟨3, ![32, 2048, 512]⟩
abbrev S2048x32x512 : Shape := ⟨3, ![2048, 32, 512]⟩
abbrev S2048x16384 : Shape := ⟨2, ![2048, 16384]⟩
abbrev S32x2048x1792 : Shape := ⟨3, ![32, 2048, 1792]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1024x2304, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x2304, .f32⟩
  | .hbm, ⟨20, _⟩ => ⟨S32x2048x512, .f32⟩
  | .hbm, ⟨21, _⟩ => ⟨S2048x32x512, .f32⟩
  | .hbm, ⟨22, _⟩ => ⟨S2048x16384, .f32⟩
  | .hbm, ⟨23, _⟩ => ⟨S32x2048x1792, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Rwkv.lean ====
abbrev S32x2048x1792 : Shape := ⟨3, ![32, 2048, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S64x1024 : Shape := ⟨2, ![64, 1024]⟩
abbrev S128x1024 : Shape := ⟨2, ![128, 1024]⟩
abbrev S32x2048x512 : Shape := ⟨3, ![32, 2048, 512]⟩
abbrev S1x64x1792 : Shape := ⟨3, ![1, 64, 1792]⟩
abbrev S1x64x512 : Shape := ⟨3, ![1, 64, 512]⟩
abbrev S1x4x128x128 : Shape := ⟨4, ![1, 4, 128, 128]⟩
abbrev S1x1x1792 : Shape := ⟨3, ![1, 1, 1792]⟩
abbrev S64x128 : Shape := ⟨2, ![64, 128]⟩
abbrev S128x128 : Shape := ⟨2, ![128, 128]⟩
abbrev S64x64 : Shape := ⟨2, ![64, 64]⟩
abbrev S64x1792 : Shape := ⟨2, ![64, 1792]⟩
abbrev S1x128 : Shape := ⟨2, ![1, 128]⟩
abbrev S1x1x128x128 : Shape := ⟨4, ![1, 1, 128, 128]⟩
abbrev S256x128 : Shape := ⟨2, ![256, 128]⟩
abbrev S128x256 : Shape := ⟨2, ![128, 256]⟩
abbrev S64x256 : Shape := ⟨2, ![64, 256]⟩

abbrev nBuf : Space → Nat
  | .hbm => 21
  | .vmem => 16
  | .smem => 0
  | _ => 0

abbrev bufTy : (tb : Table) → Fin (tcTables nBuf tb) → BufTy
  | .hbm, ⟨0, _⟩ => ⟨S32x2048x1792, .f32⟩
  | .hbm, ⟨1, _⟩ => ⟨S1x1792, .f32⟩
  | .hbm, ⟨2, _⟩ => ⟨S1x512, .f32⟩
  | .hbm, ⟨3, _⟩ => ⟨S64x512, .f32⟩
  | .hbm, ⟨4, _⟩ => ⟨S1x512, .f32⟩
  | .hbm, ⟨5, _⟩ => ⟨S64x512, .f32⟩
  | .hbm, ⟨6, _⟩ => ⟨S128x512, .f32⟩
  | .hbm, ⟨7, _⟩ => ⟨S1x512, .f32⟩
  | .hbm, ⟨8, _⟩ => ⟨S1x512, .f32⟩
  | .hbm, ⟨9, _⟩ => ⟨S8x64, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S64x512, .f32⟩
  | .hbm, ⟨14, _⟩ => ⟨S64x1024, .f32⟩
  | .hbm, ⟨15, _⟩ => ⟨S64x1024, .f32⟩
  | .hbm, ⟨16, _⟩ => ⟨S128x1024, .f32⟩
  | .hbm, ⟨17, _⟩ => ⟨S128x1024, .bf16⟩
  | .hbm, ⟨18, _⟩ => ⟨S128x512, .bf16⟩
  | .hbm, ⟨19, _⟩ => ⟨S1x512, .f32⟩
  | .hbm, ⟨20, _⟩ => ⟨S32x2048x512, .f32⟩
  | .local _ .vmem, ⟨0, _⟩ => ⟨S1x64x1792, .f32⟩
  | .local _ .vmem, ⟨1, _⟩ => ⟨S1x64x1792, .f32⟩
  | .local _ .vmem, ⟨2, _⟩ => ⟨S1x1792, .f32⟩
  | .local _ .vmem, ⟨3, _⟩ => ⟨S1x512, .f32⟩
  | .local _ .vmem, ⟨4, _⟩ => ⟨S128x1024, .bf16⟩
  | .local _ .vmem, ⟨5, _⟩ => ⟨S1x512, .f32⟩
  | .local _ .vmem, ⟨6, _⟩ => ⟨S128x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x64x512, .f32⟩
  | .local _ .vmem, ⟨13, _⟩ => ⟨S1x64x512, .f32⟩
  | .local _ .vmem, ⟨14, _⟩ => ⟨S1x4x128x128, .f32⟩
  | .local _ .vmem, ⟨15, _⟩ => ⟨S1x1x1792, .f32⟩
  | _, _ => ⟨S32x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![32, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1792 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RwkvRefIdeal.lean ====
abbrev S32x2048x1792 : Shape := ⟨3, ![32, 2048, 1792]⟩
abbrev S1x1792 : Shape := ⟨2, ![1, 1792]⟩
abbrev S1x512 : Shape := ⟨2, ![1, 512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S32x2049x1792 : Shape := ⟨3, ![32, 2049, 1792]⟩
abbrev S1x1x1792 : Shape := ⟨3, ![1, 1, 1792]⟩
abbrev S32x2048x512 : Shape := ⟨3, ![32, 2048, 512]⟩
abbrev S32x2048x64 : Shape := ⟨3, ![32, 2048, 64]⟩
abbrev S1x1x512 : Shape := ⟨3, ![1, 1, 512]⟩
abbrev S32x2048x8x64 : Shape := ⟨4, ![32, 2048, 8, 64]⟩
abbrev S32x2048x8 : Shape := ⟨3, ![32, 2048, 8]⟩
abbrev S32x2048x8x1 : Shape := ⟨4, ![32, 2048, 8, 1]⟩
abbrev S2048x32x8x64 : Shape := ⟨4, ![2048, 32, 8, 64]⟩
abbrev S32x8x64x64 : Shape := ⟨4, ![32, 8, 64, 64]⟩
abbrev S1x32x8x64 : Shape := ⟨4, ![1, 32, 8, 64]⟩
abbrev S32x8x64 : Shape := ⟨3, ![32, 8, 64]⟩
abbrev S32x8x1x64 : Shape := ⟨4, ![32, 8, 1, 64]⟩
abbrev S32x8x64x1 : Shape := ⟨4, ![32, 8, 64, 1]⟩
abbrev S32x2048x128 : Shape := ⟨3, ![32, 2048, 128]⟩
abbrev S1x1x8x64 : Shape := ⟨4, ![1, 1, 8, 64]⟩

abbrev nBuf : Space → Nat
  | .hbm => 253
  | .vmem => 0
  | .smem => 0
  | _ => 0

abbrev hbmTy0_0 (i : Nat) : BufTy := match i % 128 with
  | 0 => ⟨S32x2048x1792, .f32⟩
  | 1 => ⟨S1x1792, .f32⟩
  | 2 => ⟨S1x512, .f32⟩
  | 3 => ⟨S64x512, .f32⟩
  | 4 => ⟨S1x512, .f32⟩
  | 5 => ⟨S64x512, .f32⟩
  | 6 => ⟨S128x512, .f32⟩
  | 7 => ⟨S1x512, .f32⟩
  | 8 => ⟨S1x512, .f32⟩
  | 9 => ⟨S8x64, .f32⟩
  | 10 => ⟨S1x512, .f32⟩
  | 11 => ⟨S1x512, .f32⟩
  | 12 => ⟨S_, .i32⟩
  | 13 => ⟨S_, .f32⟩
  | 14 => ⟨S32x2049x1792, .f32⟩
  | 15 => ⟨S32x2048x1792, .f32⟩
  | 16 => ⟨S32x2048x1792, .f32⟩
  | 17 => ⟨S1x1x1792, .f32⟩
  | 18 => ⟨S32x2048x1792, .f32⟩
  | 19 => ⟨S32x2048x1792, .f32⟩
  | 20 => ⟨S32x2048x1792, .f32⟩
  | 21 => ⟨S32x2048x512, .f32⟩
  | 22 => ⟨S32x2048x512, .f32⟩
  | 23 => ⟨S32x2048x512, .f32⟩
  | 24 => ⟨S32x2048x64, .f32⟩
  | 25 => ⟨S32x2048x64, .f32⟩
  | 26 => ⟨S32x2048x64, .f32⟩
  | 27 => ⟨S32x2048x512, .f32⟩
  | 28 => ⟨S1x1x512, .f32⟩
  | 29 => ⟨S32x2048x512, .f32⟩
  | 30 => ⟨S32x2048x512, .f32⟩
  | 31 => ⟨S32x2048x512, .f32⟩
  | 32 => ⟨S32x2048x512, .f32⟩
  | 33 => ⟨S_, .f32⟩
  | 34 => ⟨S32x2048x512, .f32⟩
  | 35 => ⟨S32x2048x512, .f32⟩
  | 36 => ⟨S_, .f32⟩
  | 37 => ⟨S32x2048x512, .f32⟩
  | 38 => ⟨S32x2048x512, .f32⟩
  | 39 => ⟨S_, .f32⟩
  | 40 => ⟨S32x2048x512, .f32⟩
  | 41 => ⟨S32x2048x512, .f32⟩
  | 42 => ⟨S32x2048x512, .f32⟩
  | 43 => ⟨S32x2048x512, .f32⟩
  | 44 => ⟨S1x1x512, .f32⟩
  | 45 => ⟨S32x2048x512, .f32⟩
  | 46 => ⟨S32x2048x512, .f32⟩
  | 47 => ⟨S32x2048x512, .f32⟩
  | 48 => ⟨S32x2048x512, .f32⟩
  | 49 => ⟨S_, .f32⟩
  | 50 => ⟨S32x2048x512, .f32⟩
  | 51 => ⟨S32x2048x512, .f32⟩
  | 52 => ⟨S_, .f32⟩
  | 53 => ⟨S32x2048x512, .f32⟩
  | 54 => ⟨S32x2048x512, .f32⟩
  | 55 => ⟨S1x1x512, .f32⟩
  | 56 => ⟨S32x2048x512, .f32⟩
  | 57 => ⟨S32x2048x512, .f32⟩
  | 58 => ⟨S32x2048x8x64, .f32⟩
  | 59 => ⟨S32x2048x8x64, .f32⟩
  | 60 => ⟨S_, .f32⟩
  | 61 => ⟨S32x2048x8, .f32⟩
  | 62 => ⟨S32x2048x8x1, .f32⟩
  | 63 => ⟨S32x2048x8x1, .f32⟩
  | 64 => ⟨S_, .f32⟩
  | 65 => ⟨S32x2048x8x1, .f32⟩
  | 66 => ⟨S32x2048x8x1, .f32⟩
  | 67 => ⟨S32x2048x8x64, .f32⟩
  | 68 => ⟨S32x2048x8x64, .f32⟩
  | 69 => ⟨S_, .f32⟩
  | 70 => ⟨S32x2048x512, .f32⟩
  | 71 => ⟨S32x2048x512, .f32⟩
  | 72 => ⟨S1x1x512, .f32⟩
  | 73 => ⟨S32x2048x512, .f32⟩
  | 74 => ⟨S32x2048x512, .f32⟩
  | 75 => ⟨S_, .f32⟩
  | 76 => ⟨S32x2048x512, .f32⟩
  | 77 => ⟨S32x2048x512, .f32⟩
  | 78 => ⟨S32x2048x512, .f32⟩
  | 79 => ⟨S32x2048x8x64, .f32⟩
  | 80 => ⟨S2048x32x8x64, .f32⟩
  | 81 => ⟨S32x2048x8x64, .f32⟩
  | 82 => ⟨S2048x32x8x64, .f32⟩
  | 83 => ⟨S32x2048x8x64, .f32⟩
  | 84 => ⟨S2048x32x8x64, .f32⟩
  | 85 => ⟨S32x2048x8x64, .f32⟩
  | 86 => ⟨S2048x32x8x64, .f32⟩
  | 87 => ⟨S2048x32x8x64, .f32⟩
  | 88 => ⟨S32x2048x8x64, .f32⟩
  | 89 => ⟨S2048x32x8x64, .f32⟩
  | 90 => ⟨S_, .f32⟩
  | 91 => ⟨S32x8x64x64, .f32⟩
  | 92 => ⟨S_, .f32⟩
  | 93 => ⟨S2048x32x8x64, .f32⟩
  | 94 => ⟨S_, .i32⟩
  | 95 => ⟨S2048x32x8x64, .f32⟩
  | 96 => ⟨S2048x32x8x64, .f32⟩
  | 97 => ⟨S2048x32x8x64, .f32⟩
  | 98 => ⟨S2048x32x8x64, .f32⟩
  | 99 => ⟨S2048x32x8x64, .f32⟩
  | 100 => ⟨S2048x32x8x64, .f32⟩
  | 101 => ⟨S_, .i32⟩
  | 102 => ⟨S32x8x64x64, .f32⟩
  | 103 => ⟨S2048x32x8x64, .f32⟩
  | 104 => ⟨S_, .i32⟩
  | 105 => ⟨S_, .i1⟩
  | 106 => ⟨S_, .i32⟩
  | 107 => ⟨S_, .i32⟩
  | 108 => ⟨S_, .i32⟩
  | 109 => ⟨S1x32x8x64, .f32⟩
  | 110 => ⟨S32x8x64, .f32⟩
  | 111 => ⟨S_, .i32⟩
  | 112 => ⟨S_, .i32⟩
  | 113 => ⟨S_, .i32⟩
  | 114 => ⟨S1x32x8x64, .f32⟩
  | 115 => ⟨S32x8x64, .f32⟩
  | 116 => ⟨S_, .i32⟩
  | 117 => ⟨S_, .i32⟩
  | 118 => ⟨S_, .i32⟩
  | 119 => ⟨S1x32x8x64, .f32⟩
  | 120 => ⟨S32x8x64, .f32⟩
  | 121 => ⟨S_, .i32⟩
  | 122 => ⟨S_, .i32⟩
  | 123 => ⟨S_, .i32⟩
  | 124 => ⟨S1x32x8x64, .f32⟩
  | 125 => ⟨S32x8x64, .f32⟩
  | 126 => ⟨S_, .i32⟩
  | 127 => ⟨S_, .i32⟩
  | _ => ⟨S32x2048x1792, .f32⟩

abbrev hbmTy0_1 (i : Nat) : BufTy := match i % 128 with
  | 0 => ⟨S_, .i32⟩
  | 1 => ⟨S1x32x8x64, .f32⟩
  | 2 => ⟨S32x8x64, .f32⟩
  | 3 => ⟨S_, .i32⟩
  | 4 => ⟨S_, .i32⟩
  | 5 => ⟨S_, .i32⟩
  | 6 => ⟨S1x32x8x64, .f32⟩
  | 7 => ⟨S32x8x64, .f32⟩
  | 8 => ⟨S32x8x64, .f32⟩
  | 9 => ⟨S32x8x64, .f32⟩
  | 10 => ⟨S32x8x1x64, .f32⟩
  | 11 => ⟨S32x8x64x64, .f32⟩
  | 12 => ⟨S32x8x64x64, .f32⟩
  | 13 => ⟨S32x8x64x1, .f32⟩
  | 14 => ⟨S32x8x64, .f32⟩
  | 15 => ⟨S32x8x1x64, .f32⟩
  | 16 => ⟨S32x8x64x64, .f32⟩
  | 17 => ⟨S32x8x64x64, .f32⟩
  | 18 => ⟨S32x8x64x64, .f32⟩
  | 19 => ⟨S32x8x64x64, .f32⟩
  | 20 => ⟨S32x8x64x1, .f32⟩
  | 21 => ⟨S32x8x1x64, .f32⟩
  | 22 => ⟨S32x8x64x64, .f32⟩
  | 23 => ⟨S32x8x64x64, .f32⟩
  | 24 => ⟨S32x8x64x64, .f32⟩
  | 25 => ⟨S32x8x64x64, .f32⟩
  | 26 => ⟨S32x8x64, .f32⟩
  | 27 => ⟨S1x32x8x64, .f32⟩
  | 28 => ⟨S_, .i32⟩
  | 29 => ⟨S_, .i32⟩
  | 30 => ⟨S_, .i32⟩
  | 31 => ⟨S2048x32x8x64, .f32⟩
  | 32 => ⟨S_, .i32⟩
  | 33 => ⟨S_, .i32⟩
  | 34 => ⟨S32x2048x8x64, .f32⟩
  | 35 => ⟨S_, .f32⟩
  | 36 => ⟨S32x2048x8, .f32⟩
  | 37 => ⟨S32x2048x8x1, .f32⟩
  | 38 => ⟨S_, .f32⟩
  | 39 => ⟨S32x2048x8x1, .f32⟩
  | 40 => ⟨S32x2048x8x1, .f32⟩
  | 41 => ⟨S32x2048x8x64, .f32⟩
  | 42 => ⟨S32x2048x8x64, .f32⟩
  | 43 => ⟨S32x2048x8x64, .f32⟩
  | 44 => ⟨S_, .f32⟩
  | 45 => ⟨S32x2048x8, .f32⟩
  | 46 => ⟨S32x2048x8x1, .f32⟩
  | 47 => ⟨S_, .f32⟩
  | 48 => ⟨S32x2048x8x1, .f32⟩
  | 49 => ⟨S32x2048x8x1, .f32⟩
  | 50 => ⟨S32x2048x8x64, .f32⟩
  | 51 => ⟨S32x2048x8x64, .f32⟩
  | 52 => ⟨S_, .f32⟩
  | 53 => ⟨S32x2048x8x1, .f32⟩
  | 54 => ⟨S32x2048x8x1, .f32⟩
  | 55 => ⟨S32x2048x8x1, .f32⟩
  | 56 => ⟨S32x2048x8x64, .f32⟩
  | 57 => ⟨S32x2048x8x64, .f32⟩
  | 58 => ⟨S32x2048x512, .f32⟩
  | 59 => ⟨S1x1x512, .f32⟩
  | 60 => ⟨S32x2048x512, .f32⟩
  | 61 => ⟨S32x2048x512, .f32⟩
  | 62 => ⟨S1x1x512, .f32⟩
  | 63 => ⟨S32x2048x512, .f32⟩
  | 64 => ⟨S32x2048x512, .f32⟩
  | 65 => ⟨S_, .i32⟩
  | 66 => ⟨S_, .f32⟩
  | 67 => ⟨S32x2049x1792, .f32⟩
  | 68 => ⟨S32x2048x1792, .f32⟩
  | 69 => ⟨S32x2048x1792, .f32⟩
  | 70 => ⟨S1x1x1792, .f32⟩
  | 71 => ⟨S32x2048x1792, .f32⟩
  | 72 => ⟨S32x2048x1792, .f32⟩
  | 73 => ⟨S32x2048x1792, .f32⟩
  | 74 => ⟨S32x2048x512, .f32⟩
  | 75 => ⟨S32x2048x512, .f32⟩
  | 76 => ⟨S32x2048x512, .f32⟩
  | 77 => ⟨S32x2048x64, .f32⟩
  | 78 => ⟨S32x2048x128, .f32⟩
  | 79 => ⟨S32x2048x512, .f32⟩
  | 80 => ⟨S1x1x512, .f32⟩
  | 81 => ⟨S32x2048x512, .f32⟩
  | 82 => ⟨S32x2048x512, .f32⟩
  | 83 => ⟨S32x2048x512, .f32⟩
  | 84 => ⟨S32x2048x512, .f32⟩
  | 85 => ⟨S_, .f32⟩
  | 86 => ⟨S32x2048x512, .f32⟩
  | 87 => ⟨S32x2048x512, .f32⟩
  | 88 => ⟨S_, .f32⟩
  | 89 => ⟨S32x2048x512, .f32⟩
  | 90 => ⟨S32x2048x512, .f32⟩
  | 91 => ⟨S_, .f32⟩
  | 92 => ⟨S32x2048x512, .f32⟩
  | 93 => ⟨S32x2048x512, .f32⟩
  | 94 => ⟨S1x1x512, .f32⟩
  | 95 => ⟨S32x2048x512, .f32⟩
  | 96 => ⟨S32x2048x512, .f32⟩
  | 97 => ⟨S_, .f32⟩
  | 98 => ⟨S32x2048x512, .f32⟩
  | 99 => ⟨S32x2048x512, .f32⟩
  | 100 => ⟨S32x2048x512, .f32⟩
  | 101 => ⟨S32x2048x128, .f32⟩
  | 102 => ⟨S32x2048x128, .f32⟩
  | 103 => ⟨S_, .f32⟩
  | 104 => ⟨S32x2048x128, .f32⟩
  | 105 => ⟨S32x2048x128, .f32⟩
  | 106 => ⟨S_, .f32⟩
  | 107 => ⟨S32x2048x128, .f32⟩
  | 108 => ⟨S32x2048x128, .f32⟩
  | 109 => ⟨S32x2048x512, .f32⟩
  | 110 => ⟨S32x2048x8x64, .f32⟩
  | 111 => ⟨S32x2048x8x64, .f32⟩
  | 112 => ⟨S32x2048x8x64, .f32⟩
  | 113 => ⟨S1x1x8x64, .f32⟩
  | 114 => ⟨S32x2048x8x64, .f32⟩
  | 115 => ⟨S32x2048x8x64, .f32⟩
  | 116 => ⟨S_, .f32⟩
  | 117 => ⟨S32x2048x8, .f32⟩
  | 118 => ⟨S32x2048x8x1, .f32⟩
  | 119 => ⟨S32x2048x8x64, .f32⟩
  | 120 => ⟨S32x2048x8x64, .f32⟩
  | 121 => ⟨S32x2048x8x64, .f32⟩
  | 122 => ⟨S32x2048x512, .f32⟩
  | 123 => ⟨S32x2048x512, .f32⟩
  | 124 => ⟨S32x2048x512, .f32⟩
  | _ => ⟨S32x2048x1792, .f32⟩

abbrev hbmTy (i : Nat) : BufTy := match i / 128 with
  | 0 => hbmTy0_0 i
  | 1 => hbmTy0_1 i
  | _ => ⟨S32x2048x1792, .f32⟩

abbrev bufTy : (tb : Table) → Fin (tcTables nBuf tb) → BufTy
  | .hbm, ⟨i, _⟩ => hbmTy i
  | _, _ => ⟨S32x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_0 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_cst_9 : Ref sig .tc := ⟨.hbm, 92, rfl⟩
abbrev main_v68 : Ref sig .tc := ⟨.hbm, 93, rfl⟩
abbrev main_c_10 : Ref sig .tc := ⟨.hbm, 94, rfl⟩
abbrev main_v69_0 : Ref sig .tc := ⟨.hbm, 95, rfl⟩
abbrev main_v69_1 : Ref sig .tc := ⟨.hbm, 96, rfl⟩
abbrev main_v69_2 : Ref sig .tc := ⟨.hbm, 97, rfl⟩
abbrev main_v69_3 : Ref sig .tc := ⟨.hbm, 98, rfl⟩
abbrev main_v69_4 : Ref sig .tc := ⟨.hbm, 99, rfl⟩
abbrev main_v69_5 : Ref sig .tc := ⟨.hbm, 100, rfl⟩
abbrev main_v69_6 : Ref sig .tc := ⟨.hbm, 101, rfl⟩
abbrev main_v69_7 : Ref sig .tc := ⟨.hbm, 102, rfl⟩
abbrev main_v69_8 : Ref sig .tc := ⟨.hbm, 103, rfl⟩
abbrev main_while0c_c_32 : Ref sig .tc := ⟨.hbm, 104, rfl⟩
abbrev main_while0c_v147 : Ref sig .tc := ⟨.hbm, 105, rfl⟩
abbrev main_while0b_call1_c : Ref sig .tc := ⟨.hbm, 106, rfl⟩
abbrev main_while0b_call1_c_0 : Ref sig .tc := ⟨.hbm, 107, rfl⟩
abbrev main_while0b_call1_c_1 : Ref sig .tc := ⟨.hbm, 108, rfl⟩
abbrev main_while0b_call1_v0 : Ref sig .tc := ⟨.hbm, 109, rfl⟩
abbrev main_while0b_v147 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_v0 : Ref sig .tc := ⟨.hbm, 114, rfl⟩
abbrev main_while0b_v148 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_v0 : Ref sig .tc := ⟨.hbm, 119, rfl⟩
abbrev main_while0b_v149 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_v0 : Ref sig .tc := ⟨.hbm, 124, rfl⟩
abbrev main_while0b_v150 : Ref sig .tc := ⟨.hbm, 125, rfl⟩
abbrev main_while0b_call5_c : Ref sig .tc := ⟨.hbm, 126, rfl⟩
abbrev main_while0b_call5_c_0 : Ref sig .tc := ⟨.hbm, 127, rfl⟩
abbrev main_while0b_call5_c_1 : Ref sig .tc := ⟨.hbm, 128, rfl⟩
abbrev main_while0b_call5_v0 : Ref sig .tc := ⟨.hbm, 129, rfl⟩
abbrev main_while0b_v151 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_c_1 : Ref sig .tc := ⟨.hbm, 133, rfl⟩
abbrev main_while0b_call6_v0 : Ref sig .tc := ⟨.hbm, 134, rfl⟩
abbrev main_while0b_v152 : Ref sig .tc := ⟨.hbm, 135, rfl⟩
abbrev main_while0b_v153 : Ref sig .tc := ⟨.hbm, 136, rfl⟩
abbrev main_while0b_v154 : Ref sig .tc := ⟨.hbm, 137, rfl⟩
abbrev main_while0b_v155 : Ref sig .tc := ⟨.hbm, 138, rfl⟩
abbrev main_while0b_v156 : Ref sig .tc := ⟨.hbm, 139, rfl⟩
abbrev main_while0b_v157 : Ref sig .tc := ⟨.hbm, 140, rfl⟩
abbrev main_while0b_v158 : Ref sig .tc := ⟨.hbm, 141, rfl⟩
abbrev main_while0b_v159 : Ref sig .tc := ⟨.hbm, 142, rfl⟩
abbrev main_while0b_v160 : Ref sig .tc := ⟨.hbm, 143, rfl⟩
abbrev main_while0b_v161 : Ref sig .tc := ⟨.hbm, 144, rfl⟩
abbrev main_while0b_v162 : Ref sig .tc := ⟨.hbm, 145, rfl⟩
abbrev main_while0b_v163 : Ref sig .tc := ⟨.hbm, 146, rfl⟩
abbrev main_while0b_v164 : Ref sig .tc := ⟨.hbm, 147, rfl⟩
abbrev main_while0b_v165 : Ref sig .tc := ⟨.hbm, 148, rfl⟩
abbrev main_while0b_v166 : Ref sig .tc := ⟨.hbm, 149, rfl⟩
abbrev main_while0b_v167 : Ref sig .tc := ⟨.hbm, 150, rfl⟩
abbrev main_while0b_v168 : Ref sig .tc := ⟨.hbm, 151, rfl⟩
abbrev main_while0b_v169 : Ref sig .tc := ⟨.hbm, 152, rfl⟩
abbrev main_while0b_v170 : Ref sig .tc := ⟨.hbm, 153, rfl⟩
abbrev main_while0b_v171 : Ref sig .tc := ⟨.hbm, 154, rfl⟩
abbrev main_while0b_call7_v0 : Ref sig .tc := ⟨.hbm, 155, rfl⟩
abbrev main_while0b_call7_c : Ref sig .tc := ⟨.hbm, 156, rfl⟩
abbrev main_while0b_call7_c_0 : Ref sig .tc := ⟨.hbm, 157, rfl⟩
abbrev main_while0b_call7_c_1 : Ref sig .tc := ⟨.hbm, 158, rfl⟩
abbrev main_while0b_v172 : Ref sig .tc := ⟨.hbm, 159, rfl⟩
abbrev main_while0b_c_32 : Ref sig .tc := ⟨.hbm, 160, rfl⟩
abbrev main_while0b_v173 : Ref sig .tc := ⟨.hbm, 161, rfl⟩
abbrev main_v70 : Ref sig .tc := ⟨.hbm, 162, rfl⟩
abbrev main_cst_11 : Ref sig .tc := ⟨.hbm, 163, rfl⟩
abbrev main_v71 : Ref sig .tc := ⟨.hbm, 164, rfl⟩
abbrev main_v72 : Ref sig .tc := ⟨.hbm, 165, rfl⟩
abbrev main_cst_12 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_cst_13 : Ref sig .tc := ⟨.hbm, 172, rfl⟩
abbrev main_v78 : Ref sig .tc := ⟨.hbm, 173, rfl⟩
abbrev main_v79 : Ref sig .tc := ⟨.hbm, 174, rfl⟩
abbrev main_cst_14 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_cst_15 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_c_16 : Ref sig .tc := ⟨.hbm, 193, rfl⟩
abbrev main_call8_v0 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_v101 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_cst_17 : Ref sig .tc := ⟨.hbm, 213, rfl⟩
abbrev main_v114 : Ref sig .tc := ⟨.hbm, 214, rfl⟩
abbrev main_v115 : Ref sig .tc := ⟨.hbm, 215, rfl⟩
abbrev main_cst_18 : Ref sig .tc := ⟨.hbm, 216, rfl⟩
abbrev main_v116 : Ref sig .tc := ⟨.hbm, 217, rfl⟩
abbrev main_v117 : Ref sig .tc := ⟨.hbm, 218, rfl⟩
abbrev main_cst_19 : Ref sig .tc := ⟨.hbm, 219, rfl⟩
abbrev main_v118 : Ref sig .tc := ⟨.hbm, 220, rfl⟩
abbrev main_v119 : Ref sig .tc := ⟨.hbm, 221, rfl⟩
abbrev main_v120 : Ref sig .tc := ⟨.hbm, 222, rfl⟩
abbrev main_v121 : Ref sig .tc := ⟨.hbm, 223, rfl⟩
abbrev main_v122 : Ref sig .tc := ⟨.hbm, 224, rfl⟩
abbrev main_cst_20 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_cst_21 : Ref sig .tc := ⟨.hbm, 231, rfl⟩
abbrev main_v128 : Ref sig .tc := ⟨.hbm, 232, rfl⟩
abbrev main_v129 : Ref sig .tc := ⟨.hbm, 233, rfl⟩
abbrev main_cst_22 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_cst_23 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_v146 : Ref sig .tc := ⟨.hbm, 252, rfl⟩

abbrev nD : Nat := 1
abbrev τ : Topo := Topo.v7x

variable {F : FTy → Type} [FloatOps F]

abbrev main_while0_count : Scf.Loop 32 := ⟨0#32, 2048#32, 1#32⟩
-- ==== Proof.FfnRow.lean ====
module

public import proofs.«01_k».proof.Proof.Gen.FfnRefIdeal.Run
public import Idealize.ShloMosaic.Lib.Pointwise

/-! One token's row of the output projection and the feed-forward block, and the reference's result read as that row. -/

@[expose] public section

set_option maxRecDepth 16384

noncomputable section

namespace Cert.FfnRow
open Idealize.ShloMosaic Idealize.ShloMosaic.TcCoe Idealize.SL.Sem

/-- The mixers' joined outputs times the output weights: the two halves of the contracted axis summed apart. -/
def mix (ys yr : Fin 512 → EReal) (w : Fin 1024 → Fin 1024 → EReal) (c : Fin 1024) : EReal :=
  (∑ k : Fin 512, ys k * w ⟨k, by omega⟩ c) + ∑ k : Fin 512, yr k * w ⟨512 + k, by omega⟩ c

/-- A row divided by its root mean square, times the gain. -/
def nrm (v g : Fin 1024 → EReal) (c : Fin 1024) : EReal :=
  v c * Ideal.rsqrt (Ideal.div (∑ k, v k * v k) (Ideal.ofBits .f32 0x44800000#32) + Ideal.ofBits .f32 0x358637BD#32) * g c

/-- The first residual: the input row plus the normalised mix. -/
def res1 (ys yr : Fin 512 → EReal) (x : Fin 1024 → EReal) (w : Fin 1024 → Fin 1024 → EReal) (g : Fin 1024 → EReal)
    (c : Fin 1024) : EReal := x c + nrm (mix ys yr w) g c

/-- One hidden unit: the rectified product, squared. -/
def hid (h : Fin 1024 → EReal) (g : Fin 1024 → EReal) (wu : Fin 1024 → Fin 4096 → EReal) (j : Fin 4096) : EReal :=
  max (∑ k, nrm h g k * wu k j) 0 * max (∑ k, nrm h g k * wu k j) 0

/-- The hidden units times the second matrix. -/
def mlp (h : Fin 1024 → EReal) (g : Fin 1024 → EReal) (wu : Fin 1024 → Fin 4096 → EReal)
    (wd : Fin 4096 → Fin 1024 → EReal) (c : Fin 1024) : EReal := ∑ j, hid h g wu j * wd j c

/-- The second residual. -/
def res2 (h g g2 : Fin 1024 → EReal) (wu : Fin 1024 → Fin 4096 → EReal) (wd : Fin 4096 → Fin 1024 → EReal)
    (c : Fin 1024) : EReal := h c + nrm (mlp h g wu wd) g2 c

/-- Equal reads give equal rows. -/
theorem res2_congr {ys yr ys' yr' : Fin 512 → EReal} {x x' g g' g1 g1' g2 g2' : Fin 1024 → EReal}
    {wa wb : Fin 512 → Fin 1024 → EReal} {w : Fin 1024 → Fin 1024 → EReal} {wu wu' : Fin 1024 → Fin 4096 → EReal}
    {wd wd' : Fin 4096 → Fin 1024 → EReal} {c c' : Fin 1024}
    (h1 : ∀ k, ys k = ys' k) (h2 : ∀ k, yr k = yr' k) (h3 : ∀ k, x k = x' k) (h4 : ∀ k c, wa k c = w ⟨k, by omega⟩ c)
    (h5 : ∀ k c, wb k c = w ⟨512 + k, by omega⟩ c) (h6 : ∀ k, g k = g' k) (h7 : ∀ k, g1 k = g1' k) (h8 : ∀ k, g2 k = g2' k)
    (h9 : ∀ k j, wu k j = wu' k j) (h10 : ∀ j c, wd j c = wd' j c) (h11 : c = c') :
    res2 (fun c => x c + nrm (fun c => (∑ k, ys k * wa k c) + ∑ k, yr k * wb k c) g c) g1 g2 wu wd c
      = res2 (res1 ys' yr' x' w g') g1' g2' wu' wd' c' := by
  obtain rfl : ys = ys' := funext h1
  obtain rfl : yr = yr' := funext h2
  obtain rfl : x = x' := funext h3
  obtain rfl : wa = fun (k : Fin 512) c => w ⟨k, by omega⟩ c := funext fun k => funext (h4 k)
  obtain rfl : wb = fun (k : Fin 512) c => w ⟨512 + k, by omega⟩ c := funext fun k => funext (h5 k)
  obtain rfl : g = g' := funext h6
  obtain rfl : g1 = g1' := funext h7
  obtain rfl : g2 = g2' := funext h8
  obtain rfl : wu = wu' := funext fun k => funext (h9 k)
  obtain rfl : wd = wd' := funext fun k => funext (h10 k)
  subst h11
  rfl

section Reference
open Cert.FfnRefIdeal Cert.FfnRefIdeal.Gen

def rMix (a0 : FVec Ideal S2048x32x512 .f32) (a1 : FVec Ideal S32x2048x512 .f32) (a3 : FVec Ideal S1024x1024 .f32) :
    FVec Ideal S32x2048x1024 .f32 :=
  Host.dotGeneral dot_S32x2048x1024_S1024x1024_S32x2048x1024_2_0_01_1_n_n none (concatenate S32x2048x1024 2 [⟨S32x2048x512, (transpose S32x2048x512 [1, 0, 2] a0 transposes_S2048x32x512_S32x2048x512_1_0_2)⟩, ⟨S32x2048x512, a1⟩] concatenates_S32x2048x512_S32x2048x512_S32x2048x1024_d2) a3

def rNrm (v : FVec Ideal S32x2048x1024 .f32) (g : FVec Ideal S1x1024 .f32) : FVec Ideal S32x2048x1024 .f32 :=
  mulf (mulf v (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf v v) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![1, 2] bcast_S1x1024_S1x1x1024_1_2 g))

theorem rMix_at (a0 : FVec Ideal S2048x32x512 .f32) (a1 : FVec Ideal S32x2048x512 .f32) (a3 : FVec Ideal S1024x1024 .f32)
    (b : Fin 32) (l : Fin 2048) (c : Fin 1024) :
    rMix a0 a1 a3 (ix3 b l c) = mix (fun k => a0 (ix3 l b k)) (fun k => a1 (ix3 b l k)) (fun k c => a3 (ix2 k c)) c := by
  pointwise [rMix, mix]

theorem rNrm_at (v : FVec Ideal S32x2048x1024 .f32) (g : FVec Ideal S1x1024 .f32) (b : Fin 32) (l : Fin 2048) (c : Fin 1024) :
    rNrm v g (ix3 b l c) = nrm (fun k => v (ix3 b l k)) (fun k => g (ix2 0 k)) c := by
  pointwise [rNrm, nrm]

def rHid (v : FVec Ideal S32x2048x1024 .f32) (wu : FVec Ideal S1024x4096 .f32) : FVec Ideal S32x2048x4096 .f32 :=
  mulf (maximumf (Host.dotGeneral dot_S32x2048x1024_S1024x4096_S32x2048x4096_2_0_01_1_n_n none v wu) (broadcastInDim S32x2048x4096 ![] bcast_S_S32x2048x4096 (constant S_ .f32 0x00000000#32)))
    (maximumf (Host.dotGeneral dot_S32x2048x1024_S1024x4096_S32x2048x4096_2_0_01_1_n_n none v wu) (broadcastInDim S32x2048x4096 ![] bcast_S_S32x2048x4096 (constant S_ .f32 0x00000000#32)))

def rMlp (v : FVec Ideal S32x2048x1024 .f32) (g : FVec Ideal S1x1024 .f32) (wu : FVec Ideal S1024x4096 .f32)
    (wd : FVec Ideal S4096x1024 .f32) : FVec Ideal S32x2048x1024 .f32 :=
  Host.dotGeneral dot_S32x2048x4096_S4096x1024_S32x2048x1024_2_0_01_1_n_n none (rHid (rNrm v g) wu) wd

theorem rMlp_at (v : FVec Ideal S32x2048x1024 .f32) (g : FVec Ideal S1x1024 .f32) (wu : FVec Ideal S1024x4096 .f32)
    (wd : FVec Ideal S4096x1024 .f32) (b : Fin 32) (l : Fin 2048) (c : Fin 1024) :
    rMlp v g wu wd (ix3 b l c) = mlp (fun k => v (ix3 b l k)) (fun k => g (ix2 0 k)) (fun k j => wu (ix2 k j)) (fun j c => wd (ix2 j c)) c := by
  pointwise [rMlp, rHid, mlp, hid, rNrm, nrm]

/-- The first residual of the reference. -/
def rRes (a0 : FVec Ideal S2048x32x512 .f32) (a1 : FVec Ideal S32x2048x512 .f32) (a2 : FVec Ideal S32x2048x1024 .f32)
    (a3 : FVec Ideal S1024x1024 .f32) (a4 : FVec Ideal S1x1024 .f32) : FVec Ideal S32x2048x1024 .f32 :=
  addf a2 (rNrm (rMix a0 a1 a3) a4)

/-- The reference's result. -/
def rOut (a0 : FVec Ideal S2048x32x512 .f32) (a1 : FVec Ideal S32x2048x512 .f32) (a2 : FVec Ideal S32x2048x1024 .f32)
    (a3 : FVec Ideal S1024x1024 .f32) (a4 a5 : FVec Ideal S1x1024 .f32) (a6 : FVec Ideal S1024x4096 .f32)
    (a7 : FVec Ideal S4096x1024 .f32) (a8 : FVec Ideal S1x1024 .f32) : FVec Ideal S32x2048x1024 .f32 :=
  addf (rRes a0 a1 a2 a3 a4) (rNrm (rMlp (rRes a0 a1 a2 a3 a4) a5 a6 a7) a8)

/-- The reference's result at an index: the row of its token. -/
theorem rOut_at (a0 : FVec Ideal S2048x32x512 .f32) (a1 : FVec Ideal S32x2048x512 .f32) (a2 : FVec Ideal S32x2048x1024 .f32)
    (a3 : FVec Ideal S1024x1024 .f32) (a4 a5 : FVec Ideal S1x1024 .f32) (a6 : FVec Ideal S1024x4096 .f32)
    (a7 : FVec Ideal S4096x1024 .f32) (a8 : FVec Ideal S1x1024 .f32) (b : Fin 32) (l : Fin 2048) (c : Fin 1024) :
    rOut a0 a1 a2 a3 a4 a5 a6 a7 a8 (ix3 b l c)
      = res2 (res1 (fun k => a0 (ix3 l b k)) (fun k => a1 (ix3 b l k)) (fun k => a2 (ix3 b l k)) (fun k c => a3 (ix2 k c)) (fun k => a4 (ix2 0 k)))
          (fun k => a5 (ix2 0 k)) (fun k => a8 (ix2 0 k)) (fun k j => a6 (ix2 k j)) (fun j c => a7 (ix2 j c)) c := by
  have h1 : ∀ k : Fin 1024, rRes a0 a1 a2 a3 a4 (ix3 b l k)
      = res1 (fun k => a0 (ix3 l b k)) (fun k => a1 (ix3 b l k)) (fun k => a2 (ix3 b l k)) (fun k c => a3 (ix2 k c)) (fun k => a4 (ix2 0 k)) k := by
    intro k
    show a2 (ix3 b l k) + rNrm (rMix a0 a1 a3) a4 (ix3 b l k) = _
    rw [rNrm_at]; simp only [rMix_at]; rfl
  show rRes a0 a1 a2 a3 a4 (ix3 b l c) + rNrm (rMlp (rRes a0 a1 a2 a3 a4) a5 a6 a7) a8 (ix3 b l c) = _
  rw [rNrm_at, h1]; simp only [rMlp_at, h1]; rfl

theorem res_eq (m : (ℓ : Loc nD τ sig) → Buf (Elt Ideal) ℓ) (c : Dev nD) :
    Cert.FfnRefIdeal.Value.res_main_v47 (F := Ideal) m c = rOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  unfold Cert.FfnRefIdeal.Value.res_main_v47 rOut rRes rMlp rHid rNrm rMix; rfl

end Reference
end Cert.FfnRow
-- ==== Proof.FfnPay.lean ====
module

public import proofs.«01_k».proof.Proof.FfnRow
public import proofs.«01_k».proof.Proof.Gen.FfnIdeal.Skeleton

/-! What each value the kernel's body binds is at an index: the rows of `FfnRow`. -/

@[expose] public section

set_option maxRecDepth 16384

noncomputable section

namespace Cert.FfnPay
open Idealize.ShloMosaic Idealize.ShloMosaic.TcCoe Idealize.SL.Sem
open Cert.FfnIdeal Cert.FfnIdeal.Gen Cert.FfnRow

theorem pay3_at (v0 : FVec Ideal S256x512 .f32) (v2 : FVec Ideal S512x1024 .bf16) (v6 : FVec Ideal S1x256x512 .f32)
    (v8 : FVec Ideal S512x1024 .bf16) (r : Fin 256) (c : Fin 1024) :
    k0_pay3 (F := Ideal) v0 v2 v6 v8 (ix2 r c)
      = (∑ k : Fin 512, v0 (ix2 r k) * v2 (ix2 k c)) + ∑ k : Fin 512, v6 (ix3 0 r k) * v8 (ix2 k c) := by
  pointwise [k0_pay3]

theorem pay4_at (v0 : FVec Ideal S256x512 .f32) (v2 : FVec Ideal S512x1024 .bf16) (v6 : FVec Ideal S1x256x512 .f32)
    (v8 : FVec Ideal S512x1024 .bf16) (r : Fin 256) (c : Fin 1024) :
    k0_pay4 (F := Ideal) v0 v2 v6 v8 (ix2 r c)
      = (∑ k : Fin 512, v0 (ix2 r k) * v2 (ix2 k c)) + ∑ k : Fin 512, v6 (ix3 0 r k) * v8 (ix2 k c) := pay3_at ..

theorem pay5_at (v : FVec Ideal S1x256x1024 .f32) (r : Fin 256) (c : Fin 1024) :
    k0_pay5 (F := Ideal) v (ix2 r c) = v (ix3 0 r c) := by pointwise [k0_pay5]

theorem pay7_at (v12 v27 : FVec Ideal S256x1024 .f32) (v28 : FVec Ideal S1x1024 .f32) (r : Fin 256) (c : Fin 1024) :
    k0_pay7 (F := Ideal) v12 v27 v28 (mulf v12 v12) (ix2 r c)
      = v27 (ix2 r c) + nrm (fun k => v12 (ix2 r k)) (fun k => v28 (ix2 0 k)) c := by
  pointwise [k0_pay7, nrm]

theorem pay8_at (v25 : FVec Ideal S256x1024 .f32) (v42 : FVec Ideal S1x256x1024 .f32) (v44 : FVec Ideal S1x1024 .f32)
    (r : Fin 256) (c : Fin 1024) :
    k0_pay8 (F := Ideal) v25 v42 v44 (ix2 r c)
      = v42 (ix3 0 r c) + nrm (fun k => v25 (ix2 r k)) (fun k => v44 (ix2 0 k)) c := by
  pointwise [k0_pay8, nrm]

theorem pay9_at (v12 v27 v29 : FVec Ideal S256x1024 .f32) (v28 v58 : FVec Ideal S1x1024 .f32) (r : Fin 256) (c : Fin 1024) :
    k0_pay9 (F := Ideal) v12 v27 v28 v29 v58 (ix2 r c)
      = nrm (fun k => k0_pay7 (F := Ideal) v12 v27 v28 v29 (ix2 r k)) (fun k => v58 (ix2 0 k)) c := by
  pointwise [k0_pay9, nrm]

theorem pay10_at (v : FVec Ideal S1024x4096 .bf16) (k : Fin 1024) (j : Fin 4096) :
    k0_pay10 (F := Ideal) v (ix2 k j) = v (ix2 k j) := by pointwise [k0_pay10]

theorem pay11_at (h g : Fin 1024 → EReal) (v70 : FVec Ideal S256x1024 .f32) (v72 : FVec Ideal S1024x4096 .bf16) (v95 : FVec Ideal S4096x1024 .bf16)
    (r : Fin 256) (c : Fin 1024) (hh : ∀ k, v70 (ix2 r k) = nrm h g k) :
    k0_pay11 (F := Ideal) v70 v72 v95 (ix2 r c) = mlp h g (fun k j => v72 (ix2 k j)) (fun j c => v95 (ix2 j c)) c := by
  pointwise [k0_pay11, mlp, hid, hh]

theorem pay12_at (v57 : FVec Ideal S256x1024 .f32) (v75 : FVec Ideal S1x1024 .f32) (v88 : FVec Ideal S1024x4096 .bf16) (v102 : FVec Ideal S4096x1024 .bf16)
    (r : Fin 256) (c : Fin 1024) :
    k0_pay12 (F := Ideal) v57 v75 v88 v102 (ix2 r c)
      = mlp (fun k => v57 (ix2 r k)) (fun k => v75 (ix2 0 k)) (fun k j => v88 (ix2 k j)) (fun j c => v102 (ix2 j c)) c := by
  pointwise [k0_pay12, mlp, hid, nrm]

theorem pay1_at (v41 v70 : FVec Ideal S256x1024 .f32) (v72 : FVec Ideal S1024x4096 .bf16) (v95 : FVec Ideal S4096x1024 .bf16)
    (v106 : FVec Ideal S1x1024 .f32) (r : Fin 256) (c : Fin 1024) :
    k0_pay1 (F := Ideal) v41 (k0_pay11 (F := Ideal) v70 v72 v95) v106 (k0_pay13 (F := Ideal) v70 v72 v95) (ix3 0 r c)
      = v41 (ix2 r c) + nrm (fun k => k0_pay11 (F := Ideal) v70 v72 v95 (ix2 r k)) (fun k => v106 (ix2 0 k)) c := by
  pointwise [k0_pay1, k0_pay13, nrm]

theorem pay2_at (v57 v105 : FVec Ideal S256x1024 .f32) (v123 : FVec Ideal S1x1024 .f32) (r : Fin 256) (c : Fin 1024) :
    k0_pay2 (F := Ideal) v57 v105 v123 (ix3 0 r c)
      = v57 (ix2 r c) + nrm (fun k => v105 (ix2 r k)) (fun k => v123 (ix2 0 k)) c := by
  pointwise [k0_pay2, nrm]

/-- A half's first residual, from the half's loads. -/
theorem piece0 (v0 : FVec Ideal S256x512 .f32) (v2 v8 : FVec Ideal S512x1024 .bf16) (v6 : FVec Ideal S1x256x512 .f32)
    (v26 : FVec Ideal S1x256x1024 .f32) (v28 v58 v106 : FVec Ideal S1x1024 .f32) (v71 : FVec Ideal S1024x4096 .bf16)
    (v95 : FVec Ideal S4096x1024 .bf16) (r : Fin 256) (c : Fin 1024) :
    k0_pay1 (F := Ideal) (k0_pay7 (F := Ideal) (k0_pay3 (F := Ideal) v0 v2 v6 v8) (k0_pay5 (F := Ideal) v26) v28 (k0_pay6 (F := Ideal) v0 v2 v6 v8))
      (k0_pay11 (F := Ideal) (k0_pay9 (F := Ideal) (k0_pay3 (F := Ideal) v0 v2 v6 v8) (k0_pay5 (F := Ideal) v26) v28 (k0_pay6 (F := Ideal) v0 v2 v6 v8) v58)
        (k0_pay10 (F := Ideal) v71) v95) v106
      (k0_pay13 (F := Ideal) (k0_pay9 (F := Ideal) (k0_pay3 (F := Ideal) v0 v2 v6 v8) (k0_pay5 (F := Ideal) v26) v28 (k0_pay6 (F := Ideal) v0 v2 v6 v8) v58)
        (k0_pay10 (F := Ideal) v71) v95) (ix3 0 r c)
    = res2 (fun c => v26 (ix3 0 r c) + nrm (fun c => (∑ k : Fin 512, v0 (ix2 r k) * v2 (ix2 k c)) + ∑ k : Fin 512, v6 (ix3 0 r k) * v8 (ix2 k c)) (fun k => v28 (ix2 0 k)) c)
        (fun k => v58 (ix2 0 k)) (fun k => v106 (ix2 0 k)) (fun k j => v71 (ix2 k j)) (fun j c => v95 (ix2 j c)) c := by
  have h6 : k0_pay6 (F := Ideal) v0 v2 v6 v8 = mulf (k0_pay3 (F := Ideal) v0 v2 v6 v8) (k0_pay3 (F := Ideal) v0 v2 v6 v8) := rfl
  have e7 : ∀ k : Fin 1024, k0_pay7 (F := Ideal) (k0_pay3 (F := Ideal) v0 v2 v6 v8) (k0_pay5 (F := Ideal) v26) v28 (k0_pay6 (F := Ideal) v0 v2 v6 v8) (ix2 r k)
      = v26 (ix3 0 r k) + nrm (fun c => (∑ k : Fin 512, v0 (ix2 r k) * v2 (ix2 k c)) + ∑ k : Fin 512, v6 (ix3 0 r k) * v8 (ix2 k c)) (fun k => v28 (ix2 0 k)) k := by
    intro k
    rw [h6, pay7_at, pay5_at]
    simp only [pay3_at]
  rw [pay1_at, e7]
  have e11 := fun k => pay11_at (fun c => v26 (ix3 0 r c) + nrm (fun c => (∑ k : Fin 512, v0 (ix2 r k) * v2 (ix2 k c)) + ∑ k : Fin 512, v6 (ix3 0 r k) * v8 (ix2 k c)) (fun k => v28 (ix2 0 k)) c)
    (fun k => v58 (ix2 0 k)) (k0_pay9 (F := Ideal) (k0_pay3 (F := Ideal) v0 v2 v6 v8) (k0_pay5 (F := Ideal) v26) v28 (k0_pay6 (F := Ideal) v0 v2 v6 v8) v58)
    (k0_pay10 (F := Ideal) v71) v95 r k (fun k => by rw [pay9_at]; simp only [e7])
  simp only [e11, pay10_at]
  rfl

theorem piece1 (v13 : FVec Ideal S256x512 .f32) (v15 v21 : FVec Ideal S512x1024 .bf16) (v19 : FVec Ideal S1x256x512 .f32)
    (v42 : FVec Ideal S1x256x1024 .f32) (v44 v75 v123 : FVec Ideal S1x1024 .f32) (v88 : FVec Ideal S1024x4096 .bf16)
    (v102 : FVec Ideal S4096x1024 .bf16) (r : Fin 256) (c : Fin 1024) :
    k0_pay2 (F := Ideal) (k0_pay8 (F := Ideal) (k0_pay4 (F := Ideal) v13 v15 v19 v21) v42 v44)
      (k0_pay12 (F := Ideal) (k0_pay8 (F := Ideal) (k0_pay4 (F := Ideal) v13 v15 v19 v21) v42 v44) v75 v88 v102) v123 (ix3 0 r c)
    = res2 (fun c => v42 (ix3 0 r c) + nrm (fun c => (∑ k : Fin 512, v13 (ix2 r k) * v15 (ix2 k c)) + ∑ k : Fin 512, v19 (ix3 0 r k) * v21 (ix2 k c)) (fun k => v44 (ix2 0 k)) c)
        (fun k => v75 (ix2 0 k)) (fun k => v123 (ix2 0 k)) (fun k j => v88 (ix2 k j)) (fun j c => v102 (ix2 j c)) c := by
  rw [pay2_at]
  simp only [pay12_at, pay8_at, pay4_at]
  rfl

end Cert.FfnPay
-- ==== Proof.FfnValue.lean ====
module

public import proofs.«01_k».proof.Proof.FfnPay
public import proofs.«01_k».proof.Proof.Gen.FfnIdeal.Value
public import Idealize.ShloMosaic.Lib.Pipeline.ValueKit

/-! The result array of the kernel: every block's two halves hold the rows of their tokens. -/

@[expose] public section

set_option maxRecDepth 16384

noncomputable section

namespace Cert.FfnValue
open Idealize.ShloMosaic Idealize.ShloMosaic.TcCoe Idealize.SL.Sem
open Idealize.ShloMosaic.Pipeline (Dat)
open Cert.FfnIdeal Cert.FfnIdeal.Gen Cert.FfnRow Cert.FfnPay

variable (m : (ℓ : Loc nD τ sig) → Buf (Elt Ideal) ℓ)

theorem idx : ∀ t : Fin cfg0.N, win0_0.index t = ![t.val % 4, t.val / 4] ∧ win0_1.index t = ![t.val / 4, t.val % 4, 0]
    ∧ win0_2.index t = ![t.val / 4, t.val % 4, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 4, t.val % 4, 0] :=
  (by decide +kernel : ∀ t : Fin grid0.N, _)

theorem V_main_v3 (c : Dev nD) : V m c main_v3 = shapeCast _ (m ((c : Thread nD τ).loc main_arg0)) shapeCasts_S2048x32x512_S2048x16384 := by
  unfold V; after_results; try rfl

theorem V_main_v0 (c : Dev nD) : V m c main_v0 = truncf (F := Ideal) .bf16 (m ((c : Thread nD τ).loc main_arg3)) bitsLt_bf16_f32 := by
  unfold V; after_results; try rfl

theorem V_main_v1 (c : Dev nD) : V m c main_v1 = truncf (F := Ideal) .bf16 (m ((c : Thread nD τ).loc main_arg6)) bitsLt_bf16_f32 := by
  unfold V; after_results; try rfl

theorem V_main_v2 (c : Dev nD) : V m c main_v2 = truncf (F := Ideal) .bf16 (m ((c : Thread nD τ).loc main_arg7)) bitsLt_bf16_f32 := by
  unfold V; after_results; try rfl

/-- A block's row `r` of the first 256, or of the last, is the token's row. -/
theorem point (c : Dev nD) (t : Fin cfg0.N) (y : S1x512x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
    = rOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (((cfg0.win 9).blk t).view.emb y) := by
  have ht : t.val < 128 := lt_of_lt_of_eq t.isLt N_0
  have y1 : (y 1 : ℕ) < 512 := (y 1).isLt
  have y2 : (y 2 : ℕ) < 1024 := (y 2).isLt
  have he : ((cfg0.win 9).blk t).view.emb y = ix3 ⟨t.val / 4, by omega⟩ ⟨t.val % 4 * 512 + (y 1 : ℕ), by omega⟩ ⟨(y 2 : ℕ), y2⟩ := by
    blk_ext [idx t]
  refine Eq.trans ?_ ((congrArg _ he).trans (rOut_at ..)).symm
  clear he
  unfold_out out0_9
  canon_tiles x h
  case piece0 =>
    idx_vars x
    obtain rfl : x0 = 0 := Subsingleton.elim _ _
    refine (piece1 _ _ _ _ _ _ _ _ _ _ x1 x2).trans (res2_congr ?_ ?_ ?_ ?_ ?_ ?_ ?_ ?_ ?_ ?_ ?_)
    all_goals first
      | (intro k; pointwise; blk_point [iblk, V, idx t]; done)
      | (intro k j; pointwise; blk_point [iblk, V, idx t]; done)
      | exact Fin.ext h2.symm
  case piece1 =>
    idx_vars x
    obtain rfl : x0 = 0 := Subsingleton.elim _ _
    refine (piece0 _ _ _ _ _ _ _ _ _ _ x1 x2).trans (res2_congr ?_ ?_ ?_ ?_ ?_ ?_ ?_ ?_ ?_ ?_ ?_)
    all_goals first
      | (intro k; pointwise; blk_point [iblk, V, idx t]; done)
      | (intro k j; pointwise; blk_point [iblk, V, idx t]; done)
      | exact Fin.ext h2.symm

/-- The result array after the run is the reference's result on the same arguments. -/
theorem final (c : Dev nD) : (dats m 0 c).arrAt 9 (cfgs 0).N
    = rOut (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) := by
  refine (dats m 0 c).arrAt_eq_of_covers 9 _ (by decide +kernel) fun t _ y => ?_
  blk_simp
  rw [after0_9]
  exact point m c t y

end Cert.FfnValue
-- ==== Proof.FfnClaim.lean ====
module

public import proofs.«01_k».proof.Defs
public import proofs.«01_k».proof.Proof.FfnValue
public import proofs.«01_k».proof.Proof.Gen.Ffn
public import proofs.«01_k».proof.Proof.Gen.Ffn.Frame
public import Idealize.ShloMosaic.Lib.Claim

/-! The claims about the output projection and the feed-forward block. -/

@[expose] public section

set_option maxRecDepth 16384

noncomputable section

namespace Cert.FfnClaim
open Idealize.ShloMosaic Idealize.SL.Sem

theorem algebraic : Cert.algebraic_FfnIdeal_FfnRefIdeal := by
  pair_intro
  · run_from Cert.FfnIdeal.Gen.run_main m g
  · run_from Cert.FfnRefIdeal.Value.run m' g'
    rw [Cert.FfnValue.final m c]
    rw [Cert.FfnRow.res_eq]
    obtain ⟨h0, h1, h2, h3, h4, h5, h6, h7, h8⟩ := hagree c
    rw [h0, h1, h2, h3, h4, h5, h6, h7, h8]

theorem frame_ideal : Cert.quiescent_FfnIdeal := fun m ρ _ => Cert.FfnIdeal.Gen.frame m ρ

theorem frame_bits : Cert.quiescent_Ffn := fun m ρ _ => Cert.Ffn.Gen.frame m ρ

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

end Cert.FfnClaim
-- ==== Proof.InprojValue.lean ====
module

public import proofs.«01_k».proof.Proof.FfnRow
public import proofs.«01_k».proof.Proof.Gen.InprojRefIdeal.Run
public import proofs.«01_k».proof.Proof.Gen.InprojIdeal.Value
public import Idealize.ShloMosaic.Lib.Pointwise
public import Idealize.ShloMosaic.Lib.Pipeline.ValueKit

/-! The input projection: one token's row, the reference's two results read as it, and the kernel's two result arrays. -/

@[expose] public section

set_option maxRecDepth 16384

noncomputable section

namespace Cert.InprojValue
open Idealize.ShloMosaic Idealize.ShloMosaic.TcCoe Idealize.SL.Sem
open Idealize.ShloMosaic.Pipeline (Dat)
open Cert.FfnRow (nrm)

/-- One projected column: the normalised row times a column of the input weights. -/
def proj (x g : Fin 1024 → EReal) (w : Fin 1024 → Fin 2304 → EReal) (c : Fin 2304) : EReal := ∑ k, nrm x g k * w k c

theorem proj_congr {x x' g g' : Fin 1024 → EReal} {w w' : Fin 1024 → Fin 2304 → EReal} {c c' : Fin 2304}
    (h1 : ∀ k, x k = x' k) (h2 : ∀ k, g k = g' k) (h3 : ∀ k c, w k c = w' k c) (h4 : c = c') : proj x g w c = proj x' g' w' c' := by
  obtain rfl : x = x' := funext h1
  obtain rfl : g = g' := funext h2
  obtain rfl : w = w' := funext fun k => funext (h3 k)
  rw [h4]

section Reference
open Cert.InprojRefIdeal Cert.InprojRefIdeal.Gen

/-- The reference's projection. -/
def rP (a0 : FVec Ideal S32x2048x1024 .f32) (a1 : FVec Ideal S1x1024 .f32) (a2 : FVec Ideal S1024x2304 .f32) :
    FVec Ideal S32x2048x2304 .f32 :=
  Host.dotGeneral dot_S32x2048x1024_S1024x2304_S32x2048x2304_2_0_01_1_n_n none
    (mulf (mulf a0 (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf a0 a0) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x358637BD#32)))))) (broadcastInDim S32x2048x1024 ![0, 1, 2] bcast_S1x1x1024_S32x2048x1024_0_1_2 (broadcastInDim S1x1x1024 ![1, 2] bcast_S1x1024_S1x1x1024_1_2 a1))) a2

theorem rP_at (a0 : FVec Ideal S32x2048x1024 .f32) (a1 : FVec Ideal S1x1024 .f32) (a2 : FVec Ideal S1024x2304 .f32)
    (b : Fin 32) (l : Fin 2048) (c : Fin 2304) :
    rP a0 a1 a2 (ix3 b l c) = proj (fun k => a0 (ix3 b l k)) (fun k => a1 (ix2 0 k)) (fun k c => a2 (ix2 k c)) c := by
  pointwise [rP, proj, nrm]

/-- The reference's first result: the leading columns, time first, the batch and column axes joined. -/
def rU (a0 : FVec Ideal S32x2048x1024 .f32) (a1 : FVec Ideal S1x1024 .f32) (a2 : FVec Ideal S1024x2304 .f32) : FVec Ideal S2048x16384 .f32 :=
  shapeCast _ (transpose S2048x32x512 [1, 0, 2] (extractStridedSlice S32x2048x512 ![0, 0, 0] (rP a0 a1 a2) slices_S32x2048x2304_S32x2048x512_0_0_0) transposes_S32x2048x512_S2048x32x512_1_0_2) shapeCasts_S2048x32x512_S2048x16384

/-- The reference's second result: the other columns. -/
def rQ (a0 : FVec Ideal S32x2048x1024 .f32) (a1 : FVec Ideal S1x1024 .f32) (a2 : FVec Ideal S1024x2304 .f32) : FVec Ideal S32x2048x1792 .f32 :=
  extractStridedSlice S32x2048x1792 ![0, 0, 512] (rP a0 a1 a2) slices_S32x2048x2304_S32x2048x1792_0_0_512

theorem rU_at (a0 : FVec Ideal S32x2048x1024 .f32) (a1 : FVec Ideal S1x1024 .f32) (a2 : FVec Ideal S1024x2304 .f32)
    (l : Fin 2048) (b : Fin 32) (c : Fin 512) :
    rU a0 a1 a2 (ix2 l ⟨b.val * 512 + c.val, by omega⟩)
      = proj (fun k => a0 (ix3 b l k)) (fun k => a1 (ix2 0 k)) (fun k c => a2 (ix2 k c)) ⟨c.val, by omega⟩ := by
  rw [← rP_at]
  pointwise [rU]

theorem rQ_at (a0 : FVec Ideal S32x2048x1024 .f32) (a1 : FVec Ideal S1x1024 .f32) (a2 : FVec Ideal S1024x2304 .f32)
    (b : Fin 32) (l : Fin 2048) (c : Fin 1792) :
    rQ a0 a1 a2 (ix3 b l c)
      = proj (fun k => a0 (ix3 b l k)) (fun k => a1 (ix2 0 k)) (fun k c => a2 (ix2 k c)) ⟨512 + c.val, by omega⟩ := by
  rw [← rP_at]
  pointwise [rQ]

end Reference

section Kernel
open Cert.InprojIdeal Cert.InprojIdeal.Gen

theorem pay1_at (v0 : FVec Ideal S1x512x1024 .f32) (v2 : FVec Ideal S1x1024 .f32) (v15 : FVec Ideal S1024x2304 .bf16)
    (r : Fin 512) (c : Fin 2304) :
    k0_pay1 (F := Ideal) v0 v2 v15 (ix2 r c) = proj (fun k => v0 (ix3 0 r k)) (fun k => v2 (ix2 0 k)) (fun k c => v15 (ix2 k c)) c := by
  pointwise [k0_pay1, proj, nrm]

theorem pay2_at (v0 : FVec Ideal S1x512x1024 .f32) (v2 : FVec Ideal S1x1024 .f32) (v15 : FVec Ideal S1024x2304 .bf16)
    (r c : Fin 512) :
    k0_pay2 (F := Ideal) v0 v2 v15 (ix2 r c)
      = proj (fun k => v0 (ix3 0 r k)) (fun k => v2 (ix2 0 k)) (fun k c => v15 (ix2 k c)) ⟨c.val, by omega⟩ := by
  rw [← pay1_at]
  pointwise [k0_pay2]

theorem pay3_at (v0 : FVec Ideal S1x512x1024 .f32) (v2 : FVec Ideal S1x1024 .f32) (v15 : FVec Ideal S1024x2304 .bf16)
    (r : Fin 512) (c : Fin 1792) :
    k0_pay3 (F := Ideal) v0 v2 v15 (ix3 0 r c)
      = proj (fun k => v0 (ix3 0 r k)) (fun k => v2 (ix2 0 k)) (fun k c => v15 (ix2 k c)) ⟨512 + c.val, by omega⟩ := by
  rw [← pay1_at]
  pointwise [k0_pay3]

variable (m : (ℓ : Loc nD τ sig) → Buf (Elt Ideal) ℓ)

theorem idx : ∀ t : Fin cfg0.N, win0_0.index t = ![t.val / 4, t.val % 4, 0] ∧ win0_1.index t = ![0, 0] ∧ win0_2.index t = ![0, 0]
    ∧ win0_3.index t = ![t.val % 4, t.val / 4] ∧ win0_4.index t = ![t.val / 4, t.val % 4, 0] :=
  (by decide +kernel : ∀ t : Fin grid0.N, _)

theorem V_main_v0 (c : Dev nD) : V m c main_v0 = truncf (F := Ideal) .bf16 (m ((c : Thread nD τ).loc main_arg2)) bitsLt_bf16_f32 := by
  unfold V; after_results; try rfl

/-- A block of the first result array holds its tokens' rows. -/
theorem point3 (c : Dev nD) (t : Fin cfg0.N) (y : S512x512.Idx) :
    out0_3 (F := Ideal) (iblk m c 0 t) (iblk m c 1 t) (iblk m c 2 t) y
    = rU (m ((c : Thread nD τ).loc main_arg0)) (m ((c : Thread nD τ).loc main_arg1))
      (m ((c : Thread nD τ).loc main_arg2)) (((cfg0.win 3).blk t).view.emb y) := by
  have ht : t.val < 128 := lt_of_lt_of_eq t.isLt N_0
  have y0 : (y 0 : ℕ) < 512 := (y 0).isLt
  have y1 : (y 1 : ℕ) < 512 := (y 1).isLt
  have he : ((cfg0.win 3).blk t).view.emb y = ix2 ⟨t.val % 4 * 512 + (y 0 : ℕ), by omega⟩
      ⟨(⟨t.val / 4, by omega⟩ : Fin 32).val * 512 + (⟨(y 1 : ℕ), y1⟩ : Fin 512).val, by simp only []; omega⟩ := by
    blk_ext [idx t]
  refine Eq.trans ?_ ((congrArg _ he).trans (rU_at ..)).symm
  clear he
  unfold out0_3
  canon_tiles x h
  case piece0 =>
    idx_vars x
    refine (pay2_at _ _ _ x0 x1).trans (proj_congr ?_ ?_ ?_ ?_)
    all_goals first
      | (intro k; pointwise; blk_point [iblk, V, idx t]; done)
      | (intro k j; pointwise; blk_point [iblk, V, idx t]; done)
      | exact Fin.ext h1.symm

/-- A block of the second result array holds its tokens' rows. -/
theorem point4 (c : Dev nD) (t : Fin cfg0.N) (y : S1x512x1792.Idx) :
    out0_4 (F := Ideal) (iblk m c 0 t) (iblk m c 1 t) (iblk m c 2 t) y
    = rQ (m ((c : Thread nD τ).loc main_arg0)) (m ((c : Thread nD τ).loc main_arg1))
      (m ((c : Thread nD τ).loc main_arg2)) (((cfg0.win 4).blk t).view.emb y) := by
  have ht : t.val < 128 := lt_of_lt_of_eq t.isLt N_0
  have y1 : (y 1 : ℕ) < 512 := (y 1).isLt
  have y2 : (y 2 : ℕ) < 1792 := (y 2).isLt
  have he : ((cfg0.win 4).blk t).view.emb y = ix3 ⟨t.val / 4, by omega⟩ ⟨t.val % 4 * 512 + (y 1 : ℕ), by omega⟩ ⟨(y 2 : ℕ), y2⟩ := by
    blk_ext [idx t]
  refine Eq.trans ?_ ((congrArg _ he).trans (rQ_at ..)).symm
  clear he
  unfold out0_4
  canon_tiles x h
  case piece0 =>
    idx_vars x
    obtain rfl : x0 = 0 := Subsingleton.elim _ _
    refine (pay3_at _ _ _ x1 x2).trans (proj_congr ?_ ?_ ?_ ?_)
    all_goals first
      | (intro k; pointwise; blk_point [iblk, V, idx t]; done)
      | (intro k j; pointwise; blk_point [iblk, V, idx t]; done)
      | (refine Fin.ext ?_; simp only []; omega)

theorem final3 (c : Dev nD) : (dats m 0 c).arrAt 3 (cfgs 0).N
    = rU (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact point3 m c t y

theorem final4 (c : Dev nD) : (dats m 0 c).arrAt 4 (cfgs 0).N
    = rQ (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

end Kernel
end Cert.InprojValue
-- ==== Proof.InprojClaim.lean ====
module

public import proofs.«01_k».proof.Defs
public import proofs.«01_k».proof.Proof.InprojValue
public import proofs.«01_k».proof.Proof.Gen.Inproj
public import proofs.«01_k».proof.Proof.Gen.Inproj.Frame
public import Idealize.ShloMosaic.Lib.Claim

/-! The claims about the input projection. -/

@[expose] public section

set_option maxRecDepth 16384

noncomputable section

namespace Cert.InprojClaim
open Idealize.ShloMosaic Idealize.SL.Sem

theorem algebraic : Cert.algebraic_InprojIdeal_InprojRefIdeal := by
  pair_intro
  · run_from Cert.InprojIdeal.Gen.run_main m g
  · run_from Cert.InprojRefIdeal.Value.run m' g'
    all_goals
      first | rw [Cert.InprojValue.final3 m c] | rw [Cert.InprojValue.final4 m c]
      obtain ⟨h0, h1, h2⟩ := hagree c
      try rw [h0, h1, h2]
      first | unfold Cert.InprojValue.rU Cert.InprojValue.rP | unfold Cert.InprojValue.rQ Cert.InprojValue.rP
      rfl

theorem frame_ideal : Cert.quiescent_InprojIdeal := fun m ρ _ => Cert.InprojIdeal.Gen.frame m ρ

theorem frame_bits : Cert.quiescent_Inproj := fun m ρ _ => Cert.Inproj.Gen.frame m ρ

theorem frame_ref : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run m ρ)

end Cert.InprojClaim
-- ==== Proof.RwkvChunk.lean ====
module

public import Mathlib.Data.Matrix.Basic
public import Mathlib.Data.Matrix.Mul
public import Mathlib.Analysis.SpecialFunctions.Exp
public import Mathlib.Tactic.NoncommRing
public import Mathlib.Tactic.Ring
public import Mathlib.Tactic.Linarith

@[expose] public section

noncomputable section

/-! A chunk of 64 steps of the delta-rule recurrence over the reals, in the closed form that the kernel evaluates: the
    triangular system of the updates, its inverse by doubling blocks, the outputs and the state after the chunk. -/
namespace Cert.RwkvChunk

open Matrix Finset

/-- A 64 × 64 real matrix. -/
abbrev M := Matrix (Fin 64) (Fin 64) ℝ

/-- Nonzero entries lie in the diagonal blocks of size `g`. -/
def Near (g : ℕ) (X : M) : Prop := ∀ i j : Fin 64, (i : ℕ) / g ≠ (j : ℕ) / g → X i j = 0

/-- Nonzero entries lie at least `a` below the diagonal. -/
def Low (a : ℕ) (X : M) : Prop := ∀ i j : Fin 64, (i : ℕ) < j + a → X i j = 0

theorem Near.add {g : ℕ} {X Y : M} (hX : Near g X) (hY : Near g Y) : Near g (X + Y) := fun i j h => by
  rw [Matrix.add_apply, hX i j h, hY i j h, add_zero]

theorem Near.mul {g : ℕ} {X Y : M} (hX : Near g X) (hY : Near g Y) : Near g (X * Y) := fun i j h => by
  rw [Matrix.mul_apply]
  refine sum_eq_zero fun k _ => ?_
  by_cases hk : (i : ℕ) / g = (k : ℕ) / g
  · rw [hY k j (fun h' => h (hk.trans h')), mul_zero]
  · rw [hX i k hk, zero_mul]

theorem Near.one (g : ℕ) : Near g 1 := fun i j h =>
  Matrix.one_apply_ne fun e => h (by rw [e])

theorem Low.mul {a b : ℕ} {X Y : M} (hX : Low a X) (hY : Low b Y) : Low (a + b) (X * Y) := fun i j h => by
  rw [Matrix.mul_apply]
  refine sum_eq_zero fun k _ => ?_
  by_cases hk : (i : ℕ) < k + a
  · rw [hX i k hk, zero_mul]
  · rw [hY k j (by omega), mul_zero]

/-- The entries of `A` whose row and column lie in one block of size `g`. -/
def near (g : ℕ) (A : M) : M := fun i j => if ((i : ℕ) ^^^ (j : ℕ)) < g then A i j else 0

/-- The entries of `A` whose row and column lie in one block of size `2 g`, but in two of size `g`. -/
def band (g : ℕ) (A : M) : M := fun i j => if g ≤ ((i : ℕ) ^^^ (j : ℕ)) ∧ ((i : ℕ) ^^^ (j : ℕ)) < 2 * g then A i j else 0

theorem xor8 : ∀ i j : Fin 64, ((i : ℕ) ^^^ (j : ℕ)) < 8 ↔ (i : ℕ) / 8 = (j : ℕ) / 8 := by decide +kernel
theorem xor16 : ∀ i j : Fin 64, ((i : ℕ) ^^^ (j : ℕ)) < 16 ↔ (i : ℕ) / 16 = (j : ℕ) / 16 := by decide +kernel
theorem xor32 : ∀ i j : Fin 64, ((i : ℕ) ^^^ (j : ℕ)) < 32 ↔ (i : ℕ) / 32 = (j : ℕ) / 32 := by decide +kernel
theorem xor64 : ∀ i j : Fin 64, ((i : ℕ) ^^^ (j : ℕ)) < 64 ↔ (i : ℕ) / 64 = (j : ℕ) / 64 := by decide +kernel

/-- One doubling of the block size: the inverse of the blocks of size `2 g` from that of the blocks of size `g`. -/
theorem double (g : ℕ) (hg : ∀ i j : Fin 64, ((i : ℕ) ^^^ (j : ℕ)) < g ↔ (i : ℕ) / g = (j : ℕ) / g)
    (hg2 : ∀ i j : Fin 64, ((i : ℕ) ^^^ (j : ℕ)) < 2 * g ↔ (i : ℕ) / (2 * g) = (j : ℕ) / (2 * g)) {A T : M} (hA : Low 1 A)
    (hT : Near g T) (hi : T * (1 - near g A) = 1) :
    Near (2 * g) (T + T * band g A * T) ∧ (T + T * band g A * T) * (1 - near (2 * g) A) = 1 := by
  have hdiv : ∀ i : ℕ, i / (2 * g) = i / g / 2 := fun i => by rw [Nat.div_div_eq_div_mul, Nat.mul_comm]
  have hsum : near (2 * g) A = near g A + band g A := by
    ext i j
    have h1 := hg i j
    have h2 := hg2 i j
    simp only [near, band, Matrix.add_apply]
    by_cases h : ((i : ℕ) ^^^ (j : ℕ)) < g
    · rw [if_pos (by omega), if_pos h, if_neg (by omega), add_zero]
    · by_cases h' : ((i : ℕ) ^^^ (j : ℕ)) < 2 * g
      · rw [if_pos h', if_neg h, if_pos ⟨by omega, h'⟩, zero_add]
      · rw [if_neg h', if_neg h, if_neg (by omega), add_zero]
  have hT2 : Near (2 * g) T := fun i j h => hT i j fun e => h (by rw [hdiv, hdiv, e])
  have hB2 : Near (2 * g) (band g A) := fun i j h => if_neg fun e => h ((hg2 i j).1 e.2)
  have hz : band g A * T * band g A = 0 := by
    ext i l
    rw [Matrix.mul_apply, Matrix.zero_apply]
    refine sum_eq_zero fun k _ => ?_
    rw [Matrix.mul_apply, sum_mul]
    refine sum_eq_zero fun j _ => ?_
    by_cases h1 : g ≤ ((i : ℕ) ^^^ (j : ℕ)) ∧ ((i : ℕ) ^^^ (j : ℕ)) < 2 * g
    · by_cases h2 : g ≤ ((k : ℕ) ^^^ (l : ℕ)) ∧ ((k : ℕ) ^^^ (l : ℕ)) < 2 * g
      · by_cases h3 : (j : ℕ) / g = (k : ℕ) / g
        · by_cases h4 : (i : ℕ) < j + 1
          · rw [show band g A i j = 0 by rw [band, hA i j h4, ite_self], zero_mul, zero_mul]
          · by_cases h5 : (k : ℕ) < l + 1
            · rw [show band g A k l = 0 by rw [band, hA k l h5, ite_self], mul_zero]
            · exfalso
              have e1 := (hg2 i j).1 h1.2
              have e2 := (hg2 k l).1 h2.2
              have n1 : ¬ (i : ℕ) / g = (j : ℕ) / g := fun e => absurd ((hg i j).2 e) (by omega)
              have n2 : ¬ (k : ℕ) / g = (l : ℕ) / g := fun e => absurd ((hg k l).2 e) (by omega)
              have l1 : (j : ℕ) / g ≤ (i : ℕ) / g := Nat.div_le_div_right (by omega)
              have l2 : (l : ℕ) / g ≤ (k : ℕ) / g := Nat.div_le_div_right (by omega)
              rw [hdiv, hdiv] at e1 e2
              omega
        · rw [hT j k h3, mul_zero, zero_mul]
      · rw [show band g A k l = 0 from if_neg h2, mul_zero]
    · rw [show band g A i j = 0 from if_neg h1, zero_mul, zero_mul]
  refine ⟨hT2.add ((hT2.mul hB2).mul hT2), ?_⟩
  rw [hsum]
  have e : (T + T * band g A * T) * (1 - (near g A + band g A))
      = T * (1 - near g A) + (T * band g A) * (T * (1 - near g A)) - T * band g A - T * (band g A * T * band g A) := by noncomm_ring
  rw [e, hi, hz]
  noncomm_ring

/-- The inverse of `1 - A` as the kernel builds it: the blocks of size 8 by three products, then three doublings. -/
def t8 (A : M) : M := (1 + near 8 A + (1 + near 8 A) * (near 8 A * near 8 A))
  + (1 + near 8 A + (1 + near 8 A) * (near 8 A * near 8 A)) * (near 8 A * near 8 A * (near 8 A * near 8 A))
def t16 (A : M) : M := t8 A + t8 A * band 8 A * t8 A
def t32 (A : M) : M := t16 A + t16 A * band 16 A * t16 A
def tinv (A : M) : M := t32 A + t32 A * band 32 A * t32 A

/-- `tinv A` is a left inverse of `1 - A` for a strictly lower triangular `A`. -/
theorem tinv_mul {A : M} (hA : Low 1 A) : tinv A * (1 - A) = 1 := by
  have hP : Near 8 (near 8 A) := fun i j h => if_neg fun e => h ((xor8 i j).1 e)
  have hL : Low 1 (near 8 A) := fun i j h => by rw [near, hA i j h, ite_self]
  have h8 : (near 8 A * near 8 A * (near 8 A * near 8 A)) * (near 8 A * near 8 A * (near 8 A * near 8 A)) = 0 := by
    have hl := ((hL.mul hL).mul (hL.mul hL)).mul ((hL.mul hL).mul (hL.mul hL))
    have hn := ((hP.mul hP).mul (hP.mul hP)).mul ((hP.mul hP).mul (hP.mul hP))
    ext i j
    rw [Matrix.zero_apply]
    by_cases h : (i : ℕ) / 8 = (j : ℕ) / 8
    · exact hl i j (by omega)
    · exact hn i j h
  have n8 : Near 8 (t8 A) := by
    have n1 := (Near.one 8).add hP
    have n2 := n1.add (n1.mul (hP.mul hP))
    exact n2.add (n2.mul ((hP.mul hP).mul (hP.mul hP)))
  have i8 : t8 A * (1 - near 8 A) = 1 := by
    have e : t8 A * (1 - near 8 A) = 1 - (near 8 A * near 8 A * (near 8 A * near 8 A)) * (near 8 A * near 8 A * (near 8 A * near 8 A)) := by
      unfold t8; noncomm_ring
    rw [e, h8, sub_zero]
  obtain ⟨n16, i16⟩ := double 8 xor8 xor16 hA n8 i8
  obtain ⟨n32, i32⟩ := double 16 xor16 xor32 hA n16 i16
  obtain ⟨-, i64⟩ := double 32 xor32 xor64 hA n32 i32
  have hall : near (2 * 32) A = A := by
    ext i j
    exact if_pos ((xor64 i j).2 (by omega))
  rw [hall] at i64
  exact i64

/-- The products of the rows of `x` and `y`, below the diagonal. -/
def gramS (x y : M) : M := fun t s => if s < t then ∑ j, x t j * y s j else 0
/-- The products of the rows of `x` and `y`, on and below the diagonal. -/
def gramI (x y : M) : M := fun t s => if s ≤ t then ∑ j, x t j * y s j else 0

/-- The updates of the chunk, by the inverse. -/
def uK (ah bh kh v S : M) : M := tinv (gramS ah bh) * (ah * Sᵀ + gramS ah kh * v)
/-- The outputs of the chunk. -/
def oK (ah bh kh rh v S : M) : M := rh * Sᵀ + (gramI rh bh * uK ah bh kh v S + gramI rh kh * v)
/-- The state after the chunk. -/
def sK (ah bh kh v S : M) (we : Fin 64 → ℝ) : M := fun i j => S i j * we j
  + (∑ s, uK ah bh kh v S s i * (bh s j * we j) + ∑ s, v s i * (kh s j * we j))

/-- The closed form of a chunk computes the recurrence. `S t` is the state before step `t`, `lw` the logarithm of the decay. -/
theorem chunk (S : ℕ → M) (lw a b k r v : ℕ → Fin 64 → ℝ)
    (hS : ∀ t < 64, ∀ i j, S (t + 1) i j = S t i j * Real.exp (lw t j) + (∑ l, S t i l * a t l) * b t j + v t i * k t j)
    (cum : Fin 64 → Fin 64 → ℝ) (hcum : ∀ t j, cum t j = ∑ s : Fin 64, if s ≤ t then lw s j else 0) (ah bh kh rh vv : M)
    (hah : ∀ t j, ah t j = a t j * Real.exp (cum t j - lw t j)) (hbh : ∀ t j, bh t j = b t j * Real.exp (-cum t j))
    (hkh : ∀ t j, kh t j = k t j * Real.exp (-cum t j)) (hrh : ∀ t j, rh t j = r t j * Real.exp (cum t j))
    (hv : ∀ (t : Fin 64) j, vv t j = v t j) :
    (∀ (t : Fin 64) i, oK ah bh kh rh vv (S 0) t i = ∑ l, S (t + 1) i l * r t l)
    ∧ (∀ i j, sK ah bh kh vv (S 0) (fun j => Real.exp (cum 63 j)) i j = S 64 i j) := by
  -- the decays' sums as a function of the step's number
  let C : ℕ → Fin 64 → ℝ := fun t j => ∑ s ∈ range t, lw s j
  have hC : ∀ (t : Fin 64) j, cum t j = C (t + 1) j := fun t j => by
    have hfin : ∑ s : Fin 64, (if s ≤ t then lw s j else 0) = ∑ s ∈ range 64, if s ≤ (t : ℕ) then lw s j else 0 := by
      rw [← Fin.sum_univ_eq_sum_range (fun s => if s ≤ (t : ℕ) then lw s j else 0) 64]
      rfl
    rw [hcum, hfin, ← sum_filter]
    refine sum_congr ?_ fun _ _ => rfl
    ext s
    have := t.isLt
    simp only [mem_filter, mem_range]
    omega
  have hC1 : ∀ (t : Fin 64) j, cum t j - lw t j = C t j := fun t j => by
    rw [hC, show C (t + 1) j = C t j + lw t j from sum_range_succ _ _]; ring
  have hCs : ∀ t j, C (t + 1) j = C t j + lw t j := fun t j => sum_range_succ _ _
  -- the updates and the state without its decay
  let u : ℕ → Fin 64 → ℝ := fun t i => ∑ l, S t i l * a t l
  let H : ℕ → M := fun t i j => S t i j * Real.exp (-C t j)
  have hH : ∀ t, t ≤ 64 → ∀ i j, H t i j = S 0 i j + ∑ s ∈ range t, (u s i * (b s j * Real.exp (-C (s + 1) j)) + v s i * (k s j * Real.exp (-C (s + 1) j))) := by
    intro t
    induction t with
    | zero => intro _ i j; simp [H, C]
    | succ t ih =>
      intro ht i j
      rw [sum_range_succ, ← add_assoc, ← ih (by omega) i j]
      show S (t + 1) i j * Real.exp (-C (t + 1) j) = S t i j * Real.exp (-C t j) + _
      rw [hS t (by omega) i j]
      have he : Real.exp (lw t j) * Real.exp (-C (t + 1) j) = Real.exp (-C t j) := by
        rw [← Real.exp_add, hCs]; ring_nf
      rw [← he]
      show _ = _ + ((∑ l, S t i l * a t l) * _ + _)
      ring
  have hSH : ∀ t i j, S t i j = H t i j * Real.exp (C t j) := fun t i j => by
    show _ = S t i j * _ * _
    rw [mul_assoc, ← Real.exp_add]; simp
  have hHf : ∀ (t : ℕ) (_ : t ≤ 64) i j, H t i j = S 0 i j + ∑ s : Fin 64, if (s : ℕ) < t then u s i * bh s j + vv s i * kh s j else 0 := by
    intro t ht i j
    rw [hH t ht i j]
    congr 1
    have hfin : ∑ s : Fin 64, (if (s : ℕ) < t then u s i * bh s j + vv s i * kh s j else 0)
        = ∑ s ∈ range 64, if s < t then u s i * (b s j * Real.exp (-C (s + 1) j)) + v s i * (k s j * Real.exp (-C (s + 1) j)) else 0 := by
      rw [← Fin.sum_univ_eq_sum_range (fun s => if s < t then u s i * (b s j * Real.exp (-C (s + 1) j)) + v s i * (k s j * Real.exp (-C (s + 1) j)) else 0) 64]
      refine sum_congr rfl fun s _ => ?_
      rw [hbh, hkh, hv, hC]
    rw [hfin, ← sum_filter]
    refine sum_congr ?_ fun _ _ => rfl
    ext s
    simp only [mem_filter, mem_range]
    omega
  -- the products with a row `x`, of the state after `t` steps
  have hdot : ∀ (t : ℕ) (_ : t ≤ 64) (x : Fin 64 → ℝ) i, ∑ l, H t i l * x l = ∑ l, x l * S 0 i l
      + ((∑ s : Fin 64, if (s : ℕ) < t then (∑ l, x l * bh s l) * u s i else 0) + ∑ s : Fin 64, if (s : ℕ) < t then (∑ l, x l * kh s l) * vv s i else 0) := by
    intro t ht x i
    have e : ∀ l, H t i l * x l = x l * S 0 i l + ∑ s : Fin 64, if (s : ℕ) < t then x l * bh s l * u s i + x l * kh s l * vv s i else 0 := fun l => by
      rw [hHf t ht i l, add_mul, sum_mul]
      congr 1
      · ring
      · refine sum_congr rfl fun s _ => ?_
        split
        · ring
        · ring
    rw [sum_congr rfl fun l _ => e l, sum_add_distrib]
    congr 1
    rw [Finset.sum_comm, ← sum_add_distrib]
    refine sum_congr rfl fun s _ => ?_
    by_cases h : (s : ℕ) < t
    · simp only [if_pos h, sum_add_distrib, sum_mul]
    · simp only [if_neg h, sum_const_zero, add_zero]
  let U : M := fun t i => u t i
  have hU : U = (ah * (S 0)ᵀ + gramS ah kh * vv) + gramS ah bh * U := by
    ext t i
    have h1 : U t i = ∑ l, H t i l * ah t l := by
      show ∑ l, S t i l * a t l = _
      refine sum_congr rfl fun l _ => ?_
      rw [hSH t i l, hah, hC1]; ring
    rw [h1, hdot t (by omega)]
    simp only [Matrix.add_apply, Matrix.mul_apply, Matrix.transpose_apply, gramS, ite_mul, zero_mul, Fin.lt_def]
    have hu : ∀ s : Fin 64, u s i = U s i := fun _ => rfl
    simp only [hu]
    ring
  have hUK : uK ah bh kh vv (S 0) = U := by
    have hL : Low 1 (gramS ah bh) := fun i j h => if_neg fun e => by
      rw [Fin.lt_def] at e; omega
    have hx : ah * (S 0)ᵀ + gramS ah kh * vv = (1 - gramS ah bh) * U := by
      rw [Matrix.sub_mul, Matrix.one_mul]
      exact eq_sub_of_add_eq hU.symm
    rw [uK, hx, ← Matrix.mul_assoc, tinv_mul hL, Matrix.one_mul]
  refine ⟨fun t i => ?_, fun i j => ?_⟩
  · have h1 : ∑ l, S (t + 1) i l * r t l = ∑ l, H (t + 1) i l * rh t l := by
      refine sum_congr rfl fun l _ => ?_
      rw [hSH (t + 1) i l, hrh, hC]; ring
    rw [h1, hdot (t + 1) (by omega), oK, hUK]
    simp only [Matrix.add_apply, Matrix.mul_apply, Matrix.transpose_apply, gramI, ite_mul, zero_mul, Fin.le_def, Nat.lt_succ_iff]
    rfl
  · have hw : cum 63 j = C 64 j := hC 63 j
    rw [hSH 64 i j, hHf 64 le_rfl i j, sK, hUK]
    simp only [hw]
    have e : ∑ s : Fin 64, (if (s : ℕ) < 64 then u s i * bh s j + vv s i * kh s j else 0) = ∑ s : Fin 64, (u s i * bh s j + vv s i * kh s j) :=
      sum_congr rfl fun s _ => if_pos s.isLt
    rw [e, sum_add_distrib, add_mul, add_mul, sum_mul, sum_mul]
    congr 1
    congr 1
    · exact sum_congr rfl fun s _ => by show U s i * _ = u s i * _ * _; show u s i * _ = _; ring
    · exact sum_congr rfl fun s _ => by ring

end Cert.RwkvChunk

end
-- ==== Proof.RwkvVec.lean ====
module

public import proofs.«01_k».proof.Proof.RwkvChunk
public import proofs.«01_k».proof.Proof.Gen.RwkvIdeal.Skeleton
public import Idealize.ShloMosaic.Lib.Pointwise

/-! The kernel's arrays for a pair of heads: two 64 × 64 matrices side by side, or on the diagonal of a 128 × 128 one. -/

@[expose] public section

set_option maxRecDepth 16384

noncomputable section

namespace Cert.RwkvVec
open Idealize.ShloMosaic Idealize.ShloMosaic.TcCoe Idealize.SL.Sem
open Cert.RwkvIdeal Cert.RwkvIdeal.Gen Cert.RwkvChunk

/-- Lane `j` of head `h` of a pair. -/
def ln (h : Fin 2) (j : Fin 64) : Fin 128 := ⟨64 * h.val + j.val, by omega⟩

/-- A 64 × 128 array holds two real matrices side by side. -/
def Pk {φ : FTy} (X : FVec Ideal S64x128 φ) (x : Fin 2 → M) : Prop := ∀ h i j, X (ix2 i (ln h j)) = ((x h i j : ℝ) : EReal)

/-- A 128 × 128 array holds two real matrices on its diagonal and zeros off it. -/
def Bd {φ : FTy} (Y : FVec Ideal S128x128 φ) (y : Fin 2 → M) : Prop :=
  ∀ h i h' j, Y (ix2 (ln h i) (ln h' j)) = if h = h' then ((y h i j : ℝ) : EReal) else 0

/-- A sum over the lanes of a pair is the sum over both heads' lanes. -/
theorem sum_ln {A : Type} [AddCommMonoid A] (f : Fin 128 → A) : ∑ k, f k = ∑ j : Fin 64, f (ln 0 j) + ∑ j : Fin 64, f (ln 1 j) := by
  refine (Fin.sum_univ_add (a := 64) (b := 64) f).trans ?_
  congr 1

/-- A sum of reals is the sum of their extended values. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem select_ite {A : Type} (p : Prop) [Decidable p] (a b : A) : Scalar.select (if p then 1#1 else 0#1) a b = if p then a else b := by
  split <;> rfl

theorem head0_at (h : Fin 2) (i j : Fin 64) : k0_pay5 (ix2 i (ln h j)) = if h = 0 then 1#1 else 0#1 := by
  pointwise [k0_pay5, ln]
  revert h j; clear i
  decide +kernel

theorem strict_at (h : Fin 2) (i j : Fin 64) : k0_pay6 (ix2 i (ln h j)) = if j < i then 1#1 else 0#1 := by
  pointwise [k0_pay6, k0_pay4, ln]
  revert h i j
  decide +kernel

theorem incl_at (h : Fin 2) (i j : Fin 64) : k0_pay7 (ix2 i (ln h j)) = if j ≤ i then 1#1 else 0#1 := by
  pointwise [k0_pay7, k0_pay4, ln]
  revert h i j
  decide +kernel

theorem blk_at (h : Fin 2) (i j : Fin 64) : k0_pay9 (ix2 i (ln h j)) = BitVec.ofNat 32 ((i : ℕ) ^^^ (j : ℕ)) := by
  pointwise [k0_pay9, k0_pay4, ln]
  revert h i j
  decide +kernel

theorem eye_at : Pk (k0_pay8 (F := Ideal)) (fun _ => 1) := by
  intro h i j
  have e : IntOp.cmpi CmpIPredicate.eq (IntOp.andi (BitVec.ofNat 32 (64 * (h : ℕ) + (j : ℕ))) 63#32) (BitVec.ofNat 32 (i : ℕ)) = if i = j then 1#1 else 0#1 := by
    revert h i j
    decide +kernel
  pointwise [k0_pay8, k0_pay4, ln, e]
  have e1 : (FloatOps.sitofp FTy.f32 1#32 : Ideal FTy.f32) = 1 := by
    show (((1#32 : BitVec 32).toInt : ℝ) : EReal) = 1
    simp
  have e0 : (FloatOps.sitofp FTy.f32 0#32 : Ideal FTy.f32) = 0 := by
    show (((0#32 : BitVec 32).toInt : ℝ) : EReal) = 0
    simp
  by_cases hij : i = j
  · subst hij; simp [e1]
  · simp [hij, Matrix.one_apply_ne hij, e0]

theorem same_at (h h' : Fin 2) (i j : Fin 64) : k0_pay10 (ix2 (ln h i) (ln h' j)) = if h = h' then 1#1 else 0#1 := by
  pointwise [k0_pay10, ln]
  revert h h' i j
  decide +kernel

theorem Pk.add {X Y : FVec Ideal S64x128 .f32} {x y : Fin 2 → M} (hX : Pk X x) (hY : Pk Y y) : Pk (addf X Y) (fun h => x h + y h) := by
  intro h i j
  pointwise []
  rw [hX, hY, ← EReal.coe_add]
  rfl

/-- A pair's two heads on the diagonal of a 128 × 128 array. -/
def bdV (X : FVec Ideal S64x128 .f32) : FVec Ideal S128x128 .f32 :=
  concatenate S128x128 0 [⟨S64x128, select k0_pay5 X (broadcast S64x128 (Scalar.ofBits .f32 0x00000000#32))⟩,
    ⟨S64x128, select k0_pay5 (broadcast S64x128 (Scalar.ofBits .f32 0x00000000#32)) X⟩] concatenates_S64x128_S64x128_S128x128_d0

theorem bdV_at {X : FVec Ideal S64x128 .f32} {x : Fin 2 → M} (hX : Pk X x) : Bd (bdV X) x := by
  intro h i h' j
  have e : IntOp.cmpi CmpIPredicate.slt (BitVec.ofNat 32 (64 * (h' : ℕ) + (j : ℕ))) 64#32 = if h' = 0 then 1#1 else 0#1 := by
    clear hX x X h i
    revert h' j
    decide +kernel
  pointwise [bdV, ln, k0_pay5, e, select_ite]
  have hx := hX h' i j
  simp only [ln] at hx
  match h, h' with
  | 0, 0 => simpa using hx
  | 0, 1 => simp
  | 1, 0 => simp
  | 1, 1 => simpa using hx

/-- The product of two pairs, head by head. -/
def bmmV (X Y : FVec Ideal S64x128 .f32) : FVec Ideal S64x128 .f32 :=
  matmul dot_S64x128_S128x128_S64x128_1_0_0_1_n_n none (truncf .bf16 X bitsLt_bf16_f32) (truncf .bf16 (bdV Y) bitsLt_bf16_f32) (constant S64x128 .f32 0x00000000#32)

theorem sum_bd {X : FVec Ideal S64x128 .f32} {Y : FVec Ideal S128x128 .f32} {x y : Fin 2 → M} (hX : Pk X x) (hY : Bd Y y) (h : Fin 2) (i j : Fin 64) :
    ∑ k, X (ix2 i k) * Y (ix2 k (ln h j)) = (((x h * y h) i j : ℝ) : EReal) := by
  rw [sum_ln, Matrix.mul_apply, coe_sum]
  simp only [hX _ _ _, hY _ _ _ _, EReal.coe_mul]
  match h with
  | 0 => simp
  | 1 => simp

theorem bmmV_at {X Y : FVec Ideal S64x128 .f32} {x y : Fin 2 → M} (hX : Pk X x) (hY : Pk Y y) : Pk (bmmV X Y) (fun h => x h * y h) := by
  intro h i j
  have e := sum_bd hX (bdV_at hY) h i j
  pointwise [bmmV]
  exact e

def zV : FVec Ideal S64x128 .f32 := broadcast S64x128 (Scalar.ofBits .f32 0x00000000#32)

theorem near_at {A : FVec Ideal S64x128 .f32} {a : Fin 2 → M} (hA : Pk A a) :
    Pk (select (cmpi .slt k0_pay9 (broadcast S64x128 8#32)) A zV) (fun h => near 8 (a h)) := by
  intro h i j
  have e : IntOp.cmpi CmpIPredicate.slt (BitVec.ofNat 32 ((i : ℕ) ^^^ (j : ℕ))) 8#32 = if ((i : ℕ) ^^^ (j : ℕ)) < 8 then 1#1 else 0#1 := by
    clear hA; revert i j; decide +kernel
  pointwise [zV, blk_at, e, select_ite]
  rw [hA, near]
  split <;> simp

theorem band8_at {A : FVec Ideal S64x128 .f32} {a : Fin 2 → M} (hA : Pk A a) :
    Pk (select (andi (cmpi .sge k0_pay9 (broadcast S64x128 8#32)) (cmpi .slt k0_pay9 (broadcast S64x128 16#32))) A zV) (fun h => band 8 (a h)) := by
  intro h i j
  have e : IntOp.andi (IntOp.cmpi CmpIPredicate.sge (BitVec.ofNat 32 ((i : ℕ) ^^^ (j : ℕ))) 8#32) (IntOp.cmpi CmpIPredicate.slt (BitVec.ofNat 32 ((i : ℕ) ^^^ (j : ℕ))) 16#32)
      = if 8 ≤ ((i : ℕ) ^^^ (j : ℕ)) ∧ ((i : ℕ) ^^^ (j : ℕ)) < 2 * 8 then 1#1 else 0#1 := by
    clear hA; revert i j; decide +kernel
  pointwise [zV, blk_at, e, select_ite]
  rw [hA, band]
  split <;> simp

theorem band16_at {A : FVec Ideal S64x128 .f32} {a : Fin 2 → M} (hA : Pk A a) :
    Pk (select (andi (cmpi .sge k0_pay9 (broadcast S64x128 16#32)) (cmpi .slt k0_pay9 (broadcast S64x128 32#32))) A zV) (fun h => band 16 (a h)) := by
  intro h i j
  have e : IntOp.andi (IntOp.cmpi CmpIPredicate.sge (BitVec.ofNat 32 ((i : ℕ) ^^^ (j : ℕ))) 16#32) (IntOp.cmpi CmpIPredicate.slt (BitVec.ofNat 32 ((i : ℕ) ^^^ (j : ℕ))) 32#32)
      = if 16 ≤ ((i : ℕ) ^^^ (j : ℕ)) ∧ ((i : ℕ) ^^^ (j : ℕ)) < 2 * 16 then 1#1 else 0#1 := by
    clear hA; revert i j; decide +kernel
  pointwise [zV, blk_at, e, select_ite]
  rw [hA, band]
  split <;> simp

theorem band32_at {A : FVec Ideal S64x128 .f32} {a : Fin 2 → M} (hA : Pk A a) :
    Pk (select (andi (cmpi .sge k0_pay9 (broadcast S64x128 32#32)) (cmpi .slt k0_pay9 (broadcast S64x128 64#32))) A zV) (fun h => band 32 (a h)) := by
  intro h i j
  have e : IntOp.andi (IntOp.cmpi CmpIPredicate.sge (BitVec.ofNat 32 ((i : ℕ) ^^^ (j : ℕ))) 32#32) (IntOp.cmpi CmpIPredicate.slt (BitVec.ofNat 32 ((i : ℕ) ^^^ (j : ℕ))) 64#32)
      = if 32 ≤ ((i : ℕ) ^^^ (j : ℕ)) ∧ ((i : ℕ) ^^^ (j : ℕ)) < 2 * 32 then 1#1 else 0#1 := by
    clear hA; revert i j; decide +kernel
  pointwise [zV, blk_at, e, select_ite]
  rw [hA, band]
  split <;> simp

end Cert.RwkvVec
end
-- ==== Proof.RwkvPair.lean ====
module

public import proofs.«01_k».proof.Proof.RwkvVec

/-! One chunk of a pair of heads: what the kernel's products leave, head by head. -/

@[expose] public section

set_option maxRecDepth 16384

noncomputable section

namespace Cert.RwkvVec
open Idealize.ShloMosaic Idealize.ShloMosaic.TcCoe Idealize.SL.Sem
open Cert.RwkvIdeal Cert.RwkvIdeal.Gen Cert.RwkvChunk

/-- The left operand of a pair's products: `ah` above `rh`. -/
def lhsV (A R : FVec Ideal S64x128 .f32) : FVec Ideal S128x128 .bf16 :=
  truncf .bf16 (concatenate S128x128 0 [⟨S64x128, A⟩, ⟨S64x128, R⟩] concatenates_S64x128_S64x128_S128x128_d0) bitsLt_bf16_f32

/-- The products of the rows of `ah`, `rh` with those of `bh`, `kh`. -/
def gramV (A R B K : FVec Ideal S64x128 .f32) : FVec Ideal S128x256 .f32 :=
  matmul dot_S128x128_S256x128_S128x256_1_1_0_0_n_n none (lhsV A R)
    (truncf .bf16 (concatenate S256x128 0 [⟨S128x128, bdV B⟩, ⟨S128x128, bdV K⟩] concatenates_S128x128_S128x128_S256x128_d0) bitsLt_bf16_f32)
    (constant S128x256 .f32 0x00000000#32)

theorem sum_bdT {X : FVec Ideal S64x128 .f32} {Y : FVec Ideal S128x128 .f32} {x y : Fin 2 → M} (hX : Pk X x) (hY : Bd Y y) (h : Fin 2) (i j : Fin 64) :
    ∑ k, X (ix2 i k) * Y (ix2 (ln h j) k) = ((∑ k, x h i k * y h j k : ℝ) : EReal) := by
  rw [sum_ln, coe_sum]
  simp only [hX _ _ _, hY _ _ _ _, EReal.coe_mul]
  match h with
  | 0 => simp
  | 1 => simp

theorem gram_ab {A R B K : FVec Ideal S64x128 .f32} {a b : Fin 2 → M} (hA : Pk A a) (hB : Pk B b) :
    Pk (select k0_pay6 (extractStridedSlice S64x128 ![0, 0] (gramV A R B K) slices_S128x256_o0_0_S64x128) zV) (fun h => gramS (a h) (b h)) := by
  intro h i j
  have e := sum_bdT hA (bdV_at hB) h i j
  pointwise [zV, gramV, lhsV, strict_at, select_ite]
  rw [e, gramS]
  split <;> simp

theorem gram_ak {A R B K : FVec Ideal S64x128 .f32} {a b : Fin 2 → M} (hA : Pk A a) (hB : Pk K b) :
    Pk (select k0_pay6 (extractStridedSlice S64x128 ![0, 128] (gramV A R B K) slices_S128x256_o0_128_S64x128) zV) (fun h => gramS (a h) (b h)) := by
  intro h i j
  have e := sum_bdT hA (bdV_at hB) h i j
  pointwise [zV, gramV, lhsV, strict_at, select_ite]
  rw [e, gramS]
  split <;> simp

theorem gram_rb {A R B K : FVec Ideal S64x128 .f32} {a b : Fin 2 → M} (hA : Pk R a) (hB : Pk B b) :
    Pk (select k0_pay7 (extractStridedSlice S64x128 ![64, 0] (gramV A R B K) slices_S128x256_o64_0_S64x128) zV) (fun h => gramI (a h) (b h)) := by
  intro h i j
  have e := sum_bdT hA (bdV_at hB) h i j
  pointwise [zV, gramV, lhsV, incl_at, select_ite]
  rw [e, gramI]
  split <;> simp

theorem gram_rk {A R B K : FVec Ideal S64x128 .f32} {a b : Fin 2 → M} (hA : Pk R a) (hB : Pk K b) :
    Pk (select k0_pay7 (extractStridedSlice S64x128 ![64, 128] (gramV A R B K) slices_S128x256_o64_128_S64x128) zV) (fun h => gramI (a h) (b h)) := by
  intro h i j
  have e := sum_bdT hA (bdV_at hB) h i j
  pointwise [zV, gramV, lhsV, incl_at, select_ite]
  rw [e, gramI]
  split <;> simp

/-- The products of the rows of `ah`, `rh` with the state's. -/
def ssV (A R : FVec Ideal S64x128 .f32) (S : FVec Ideal S128x128 .f32) : FVec Ideal S128x128 .f32 :=
  matmul dot_S128x128_S128x128_S128x128_1_1_0_0_n_n none (lhsV A R) (truncf .bf16 S bitsLt_bf16_f32) (constant S128x128 .f32 0x00000000#32)

theorem ss_a {A R : FVec Ideal S64x128 .f32} {S : FVec Ideal S128x128 .f32} {a s : Fin 2 → M} (hA : Pk A a) (hS : Bd S s) :
    Pk (extractStridedSlice S64x128 ![0, 0] (ssV A R S) slices_S128x128_o0_0_S64x128) (fun h => a h * (s h).transpose) := by
  intro h i j
  have e := sum_bdT hA hS h i j
  pointwise [ssV, lhsV]
  rw [e, Matrix.mul_apply]
  rfl

theorem ss_r {A R : FVec Ideal S64x128 .f32} {S : FVec Ideal S128x128 .f32} {a s : Fin 2 → M} (hA : Pk R a) (hS : Bd S s) :
    Pk (extractStridedSlice S64x128 ![64, 0] (ssV A R S) slices_S128x128_o64_0_S64x128) (fun h => a h * (s h).transpose) := by
  intro h i j
  have e := sum_bdT hA hS h i j
  pointwise [ssV, lhsV]
  rw [e, Matrix.mul_apply]
  rfl

/-- Two pairs' products in one. -/
def twoV (X Y U W : FVec Ideal S64x128 .f32) : FVec Ideal S64x128 .f32 :=
  matmul dot_S64x256_S256x128_S64x128_1_0_0_1_n_n none
    (truncf .bf16 (concatenate S64x256 1 [⟨S64x128, X⟩, ⟨S64x128, Y⟩] concatenates_S64x128_S64x128_S64x256_d1) bitsLt_bf16_f32)
    (truncf .bf16 (concatenate S256x128 0 [⟨S128x128, bdV U⟩, ⟨S128x128, bdV W⟩] concatenates_S128x128_S128x128_S256x128_d0) bitsLt_bf16_f32)
    (constant S64x128 .f32 0x00000000#32)

theorem sum_256 (f : Fin 256 → EReal) : ∑ k, f k = ∑ k : Fin 128, f ⟨k.val, by omega⟩ + ∑ k : Fin 128, f ⟨128 + k.val, by omega⟩ := by
  refine (Fin.sum_univ_add (a := 128) (b := 128) f).trans ?_
  congr 1

theorem two_at {X Y U W : FVec Ideal S64x128 .f32} {x y u w : Fin 2 → M} (hX : Pk X x) (hY : Pk Y y) (hU : Pk U u) (hW : Pk W w) :
    Pk (twoV X Y U W) (fun h => x h * u h + y h * w h) := by
  intro h i j
  have e1 := sum_bd hX (bdV_at hU) h i j
  have e2 := sum_bd hY (bdV_at hW) h i j
  pointwise [twoV]
  rw [e1, e2, ← EReal.coe_add]
  rfl

/-- The chunk's contribution to the state. -/
def updV (U W B K : FVec Ideal S64x128 .f32) (we : FVec Ideal S1x128 .f32) : FVec Ideal S128x128 .f32 :=
  matmul dot_S128x128_S128x128_S128x128_0_0_1_1_n_n none
    (truncf .bf16 (concatenate S128x128 0 [⟨S64x128, U⟩, ⟨S64x128, W⟩] concatenates_S64x128_S64x128_S128x128_d0) bitsLt_bf16_f32)
    (truncf .bf16 (concatenate S128x128 0 [⟨S64x128, mulf B (broadcastTo S64x128 we broadcasts_S1x128_S64x128)⟩,
      ⟨S64x128, mulf K (broadcastTo S64x128 we broadcasts_S1x128_S64x128)⟩] concatenates_S64x128_S64x128_S128x128_d0) bitsLt_bf16_f32)
    (constant S128x128 .f32 0x00000000#32)

theorem upd_at {U W B K : FVec Ideal S64x128 .f32} {we : FVec Ideal S1x128 .f32} {S : FVec Ideal S128x128 .f32} {u w b k s : Fin 2 → M} {e : Fin 2 → Fin 64 → ℝ}
    (hU : Pk U u) (hW : Pk W w) (hB : Pk B b) (hK : Pk K k) (he : ∀ h j, we (ix2 0 (ln h j)) = ((e h j : ℝ) : EReal)) (hS : Bd S s) :
    Bd (addf (mulf S (broadcastTo S128x128 we broadcasts_S1x128_S128x128))
        (select k0_pay10 (updV U W B K we) (broadcast S128x128 (Scalar.ofBits .f32 0x00000000#32))))
      (fun h i j => s h i j * e h j + (∑ t, u h t i * (b h t j * e h j) + ∑ t, w h t i * (k h t j * e h j))) := by
  intro h i h' j
  pointwise [updV, same_at, select_ite]
  simp only [hU _ _ _, hW _ _ _, hB _ _ _, hK _ _ _, he, hS _ _ _ _]
  by_cases hh : h = h'
  · subst hh
    simp only [if_true, EReal.coe_add, EReal.coe_mul, coe_sum]
  · simp only [if_neg hh, zero_mul, add_zero]

/-! ## A whole chunk of a pair -/

/-- Entries of the updates' system near the diagonal, and in the bands off it. -/
def nearV (A : FVec Ideal S64x128 .f32) : FVec Ideal S64x128 .f32 := select (cmpi .slt k0_pay9 (broadcast S64x128 8#32)) A zV
def band8V (A : FVec Ideal S64x128 .f32) : FVec Ideal S64x128 .f32 :=
  select (andi (cmpi .sge k0_pay9 (broadcast S64x128 8#32)) (cmpi .slt k0_pay9 (broadcast S64x128 16#32))) A zV
def band16V (A : FVec Ideal S64x128 .f32) : FVec Ideal S64x128 .f32 :=
  select (andi (cmpi .sge k0_pay9 (broadcast S64x128 16#32)) (cmpi .slt k0_pay9 (broadcast S64x128 32#32))) A zV
def band32V (A : FVec Ideal S64x128 .f32) : FVec Ideal S64x128 .f32 :=
  select (andi (cmpi .sge k0_pay9 (broadcast S64x128 32#32)) (cmpi .slt k0_pay9 (broadcast S64x128 64#32))) A zV

/-- The inverse, step by step. -/
def sqV (P : FVec Ideal S64x128 .f32) : FVec Ideal S64x128 .f32 := addf (addf k0_pay8 P) (bmmV (addf k0_pay8 P) (bmmV P P))
def t8V (T P4 : FVec Ideal S64x128 .f32) : FVec Ideal S64x128 .f32 := addf T (bmmV T P4)
def stepV (T B : FVec Ideal S64x128 .f32) : FVec Ideal S64x128 .f32 := addf T (bmmV (bmmV T B) T)
def tinvV (A : FVec Ideal S64x128 .f32) : FVec Ideal S64x128 .f32 :=
  stepV (stepV (stepV (t8V (sqV (nearV A)) (bmmV (bmmV (nearV A) (nearV A)) (bmmV (nearV A) (nearV A)))) (band8V A)) (band16V A)) (band32V A)

theorem tinv_at {A : FVec Ideal S64x128 .f32} {a : Fin 2 → M} (hA : Pk A a) : Pk (tinvV A) (fun h => tinv (a h)) := by
  have hP := near_at hA
  have hP2 := bmmV_at hP hP
  have hi := eye_at.add hP
  have h4 := hi.add (bmmV_at hi hP2)
  have h8 : Pk _ (fun h => t8 (a h)) := h4.add (bmmV_at h4 (bmmV_at hP2 hP2))
  have h16 : Pk _ (fun h => t16 (a h)) := h8.add (bmmV_at (bmmV_at h8 (band8_at hA)) h8)
  have h32 : Pk _ (fun h => t32 (a h)) := h16.add (bmmV_at (bmmV_at h16 (band16_at hA)) h16)
  exact h32.add (bmmV_at (bmmV_at h32 (band32_at hA)) h32)

/-- The chunk's updates, outputs and state. -/
def uV (A R B K W : FVec Ideal S64x128 .f32) (S : FVec Ideal S128x128 .f32) : FVec Ideal S64x128 .f32 :=
  bmmV (tinvV (select k0_pay6 (extractStridedSlice S64x128 ![0, 0] (gramV A R B K) slices_S128x256_o0_0_S64x128) zV))
    (addf (extractStridedSlice S64x128 ![0, 0] (ssV A R S) slices_S128x128_o0_0_S64x128)
      (bmmV (select k0_pay6 (extractStridedSlice S64x128 ![0, 128] (gramV A R B K) slices_S128x256_o0_128_S64x128) zV) W))
def oV (A R B K W : FVec Ideal S64x128 .f32) (S : FVec Ideal S128x128 .f32) : FVec Ideal S64x128 .f32 :=
  addf (extractStridedSlice S64x128 ![64, 0] (ssV A R S) slices_S128x128_o64_0_S64x128)
    (twoV (select k0_pay7 (extractStridedSlice S64x128 ![64, 0] (gramV A R B K) slices_S128x256_o64_0_S64x128) zV)
      (select k0_pay7 (extractStridedSlice S64x128 ![64, 128] (gramV A R B K) slices_S128x256_o64_128_S64x128) zV) (uV A R B K W S) W)
def sV (A R B K W : FVec Ideal S64x128 .f32) (we : FVec Ideal S1x128 .f32) (S : FVec Ideal S128x128 .f32) : FVec Ideal S128x128 .f32 :=
  addf (mulf S (broadcastTo S128x128 we broadcasts_S1x128_S128x128))
    (select k0_pay10 (updV (uV A R B K W S) W B K we) (broadcast S128x128 (Scalar.ofBits .f32 0x00000000#32)))

theorem u_at {A R B K W : FVec Ideal S64x128 .f32} {S : FVec Ideal S128x128 .f32} {a b k w s : Fin 2 → M}
    (hA : Pk A a) (hB : Pk B b) (hK : Pk K k) (hW : Pk W w) (hS : Bd S s) :
    Pk (uV A R B K W S) (fun h => uK (a h) (b h) (k h) (w h) (s h)) :=
  bmmV_at (tinv_at (gram_ab hA hB)) ((ss_a hA hS).add (bmmV_at (gram_ak hA hK) hW))

theorem o_at {A R B K W : FVec Ideal S64x128 .f32} {S : FVec Ideal S128x128 .f32} {a r b k w s : Fin 2 → M}
    (hA : Pk A a) (hR : Pk R r) (hB : Pk B b) (hK : Pk K k) (hW : Pk W w) (hS : Bd S s) :
    Pk (oV A R B K W S) (fun h => oK (a h) (b h) (k h) (r h) (w h) (s h)) :=
  (ss_r hR hS).add (two_at (gram_rb hR hB) (gram_rk hR hK) (u_at hA hB hK hW hS) hW)

theorem s_at {A R B K W : FVec Ideal S64x128 .f32} {we : FVec Ideal S1x128 .f32} {S : FVec Ideal S128x128 .f32} {a b k w s : Fin 2 → M} {e : Fin 2 → Fin 64 → ℝ}
    (hA : Pk A a) (hB : Pk B b) (hK : Pk K k) (hW : Pk W w) (he : ∀ h j, we (ix2 0 (ln h j)) = ((e h j : ℝ) : EReal)) (hS : Bd S s) :
    Bd (sV A R B K W we S) (fun h => sK (a h) (b h) (k h) (w h) (s h) (e h)) :=
  upd_at (u_at hA hB hK hW hS) hW hB hK he hS

end Cert.RwkvVec
end
-- ==== Proof.RwkvChain.lean ====
module

public import proofs.«01_k».proof.Proof.RwkvPair

/-! The kernel's values for the four pairs of heads of a chunk are `oV` and `sV` of the pairs' parts. -/

@[expose] public section

set_option maxRecDepth 16384

noncomputable section

namespace Cert.RwkvVec
open Idealize.ShloMosaic Idealize.ShloMosaic.TcCoe Idealize.SL.Sem
open Cert.RwkvIdeal Cert.RwkvIdeal.Gen Cert.RwkvChunk

/-- The pairs' lanes of a chunk's array. -/
def sl0 (X : FVec Ideal S64x512 .f32) : FVec Ideal S64x128 .f32 := extractStridedSlice S64x128 ![0, 0] X slices_S64x512_o0_0_S64x128
def sl1 (X : FVec Ideal S64x512 .f32) : FVec Ideal S64x128 .f32 := extractStridedSlice S64x128 ![0, 128] X slices_S64x512_o0_128_S64x128
def sl2 (X : FVec Ideal S64x512 .f32) : FVec Ideal S64x128 .f32 := extractStridedSlice S64x128 ![0, 256] X slices_S64x512_o0_256_S64x128
def sl3 (X : FVec Ideal S64x512 .f32) : FVec Ideal S64x128 .f32 := extractStridedSlice S64x128 ![0, 384] X slices_S64x512_o0_384_S64x128
def se0 (X : FVec Ideal S1x512 .f32) : FVec Ideal S1x128 .f32 := extractStridedSlice S1x128 ![0, 0] X slices_S1x512_o0_0_S1x128
def se1 (X : FVec Ideal S1x512 .f32) : FVec Ideal S1x128 .f32 := extractStridedSlice S1x128 ![0, 128] X slices_S1x512_o0_128_S1x128
def se2 (X : FVec Ideal S1x512 .f32) : FVec Ideal S1x128 .f32 := extractStridedSlice S1x128 ![0, 256] X slices_S1x512_o0_256_S1x128
def se3 (X : FVec Ideal S1x512 .f32) : FVec Ideal S1x128 .f32 := extractStridedSlice S1x128 ![0, 384] X slices_S1x512_o0_384_S1x128
/-- A pair's state as the scratch holds it, and back. -/
def sOut (X : FVec Ideal S128x128 .f32) : FVec Ideal S1x1x128x128 .f32 := shapeCast S1x1x128x128 X shapeCasts_S128x128_S1x1x128x128
def sIn (X : Vec Ideal S1x1x128x128 .f32) : FVec Ideal S128x128 .f32 := shapeCast S128x128 X shapeCasts_S1x1x128x128_S128x128

variable (v52 v54 v69 v74 v100 v108 ah bh kh rh v o0 o1 o2 : FVec Ideal S64x512 .f32) (we : FVec Ideal S1x512 .f32) (S : Vec Ideal S1x1x128x128 .f32)

/-- A pair's lanes of the four. -/
def o0V : FVec Ideal S64x128 .f32 := oV (sl0 ah) (sl0 rh) (sl0 bh) (sl0 kh) (sl0 v) (sIn S)
def o1V : FVec Ideal S64x128 .f32 := oV (sl1 ah) (sl1 rh) (sl1 bh) (sl1 kh) (sl1 v) (sIn S)
def o2V : FVec Ideal S64x128 .f32 := oV (sl2 ah) (sl2 rh) (sl2 bh) (sl2 kh) (sl2 v) (sIn S)
def o3V : FVec Ideal S64x128 .f32 := oV (sl3 ah) (sl3 rh) (sl3 bh) (sl3 kh) (sl3 v) (sIn S)
def s0V : FVec Ideal S1x1x128x128 .f32 := sOut (sV (sl0 ah) (sl0 rh) (sl0 bh) (sl0 kh) (sl0 v) (se0 we) (sIn S))
def s1V : FVec Ideal S1x1x128x128 .f32 := sOut (sV (sl1 ah) (sl1 rh) (sl1 bh) (sl1 kh) (sl1 v) (se1 we) (sIn S))
def s2V : FVec Ideal S1x1x128x128 .f32 := sOut (sV (sl2 ah) (sl2 rh) (sl2 bh) (sl2 kh) (sl2 v) (se2 we) (sIn S))
def s3V : FVec Ideal S1x1x128x128 .f32 := sOut (sV (sl3 ah) (sl3 rh) (sl3 bh) (sl3 kh) (sl3 v) (se3 we) (sIn S))

theorem o0_eq : k0_pay64 k0_pay5 (k0_pay40 v54) (k0_pay49 k0_pay7 (k0_pay44 k0_pay5 k0_pay12 v52 v69 v74 v100 v108)) (k0_pay50 k0_pay7 (k0_pay44 k0_pay5 k0_pay12 v52 v69 v74 v100 v108)) (k0_pay59 k0_pay5 k0_pay9 (k0_pay47 k0_pay6 (k0_pay45 k0_pay5 k0_pay12 v52 v69 v74 v100 v108) k0_pay46) (k0_pay57 k0_pay5 k0_pay9 (k0_pay47 k0_pay6 (k0_pay45 k0_pay5 k0_pay12 v52 v69 v74 v100 v108) k0_pay46) (k0_pay54 k0_pay5 k0_pay6 k0_pay8 k0_pay9 (k0_pay45 k0_pay5 k0_pay12 v52 v69 v74 v100 v108) k0_pay46) (k0_pay55 k0_pay5 k0_pay6 k0_pay9 (k0_pay45 k0_pay5 k0_pay12 v52 v69 v74 v100 v108) k0_pay46) (k0_pay56 k0_pay5 k0_pay6 k0_pay9 (k0_pay45 k0_pay5 k0_pay12 v52 v69 v74 v100 v108) k0_pay46)) (k0_pay58 k0_pay5 k0_pay9 (k0_pay47 k0_pay6 (k0_pay45 k0_pay5 k0_pay12 v52 v69 v74 v100 v108) k0_pay46) (k0_pay54 k0_pay5 k0_pay6 k0_pay8 k0_pay9 (k0_pay45 k0_pay5 k0_pay12 v52 v69 v74 v100 v108) k0_pay46) (k0_pay55 k0_pay5 k0_pay6 k0_pay9 (k0_pay45 k0_pay5 k0_pay12 v52 v69 v74 v100 v108) k0_pay46) (k0_pay56 k0_pay5 k0_pay6 k0_pay9 (k0_pay45 k0_pay5 k0_pay12 v52 v69 v74 v100 v108) k0_pay46))) (k0_pay60 (k0_pay42 S) (k0_pay43 k0_pay12 v52 v69 v100)) (k0_pay61 (k0_pay42 S) (k0_pay43 k0_pay12 v52 v69 v100)) (k0_pay62 k0_pay5 (k0_pay40 v54) (k0_pay48 k0_pay6 (k0_pay44 k0_pay5 k0_pay12 v52 v69 v74 v100 v108))) = o0V (k0_pay33 k0_pay12 v69 v100) (k0_pay34 k0_pay12 v69 v74 v100) (k0_pay35 k0_pay12 v69 v108) (k0_pay36 k0_pay12 v52 v69) v54 S := rfl

theorem s0_eq : k0_pay65 k0_pay5 k0_pay10 (k0_pay38 k0_pay12 v69 v74 v100) (k0_pay39 k0_pay12 v69 v108) (k0_pay40 v54) (k0_pay41 k0_pay12 v69) (k0_pay42 S) (k0_pay59 k0_pay5 k0_pay9 (k0_pay47 k0_pay6 (k0_pay45 k0_pay5 k0_pay12 v52 v69 v74 v100 v108) k0_pay46) (k0_pay57 k0_pay5 k0_pay9 (k0_pay47 k0_pay6 (k0_pay45 k0_pay5 k0_pay12 v52 v69 v74 v100 v108) k0_pay46) (k0_pay54 k0_pay5 k0_pay6 k0_pay8 k0_pay9 (k0_pay45 k0_pay5 k0_pay12 v52 v69 v74 v100 v108) k0_pay46) (k0_pay55 k0_pay5 k0_pay6 k0_pay9 (k0_pay45 k0_pay5 k0_pay12 v52 v69 v74 v100 v108) k0_pay46) (k0_pay56 k0_pay5 k0_pay6 k0_pay9 (k0_pay45 k0_pay5 k0_pay12 v52 v69 v74 v100 v108) k0_pay46)) (k0_pay58 k0_pay5 k0_pay9 (k0_pay47 k0_pay6 (k0_pay45 k0_pay5 k0_pay12 v52 v69 v74 v100 v108) k0_pay46) (k0_pay54 k0_pay5 k0_pay6 k0_pay8 k0_pay9 (k0_pay45 k0_pay5 k0_pay12 v52 v69 v74 v100 v108) k0_pay46) (k0_pay55 k0_pay5 k0_pay6 k0_pay9 (k0_pay45 k0_pay5 k0_pay12 v52 v69 v74 v100 v108) k0_pay46) (k0_pay56 k0_pay5 k0_pay6 k0_pay9 (k0_pay45 k0_pay5 k0_pay12 v52 v69 v74 v100 v108) k0_pay46))) (k0_pay61 (k0_pay42 S) (k0_pay43 k0_pay12 v52 v69 v100)) (k0_pay62 k0_pay5 (k0_pay40 v54) (k0_pay48 k0_pay6 (k0_pay44 k0_pay5 k0_pay12 v52 v69 v74 v100 v108))) = s0V (k0_pay33 k0_pay12 v69 v100) (k0_pay34 k0_pay12 v69 v74 v100) (k0_pay35 k0_pay12 v69 v108) (k0_pay36 k0_pay12 v52 v69) v54 (k0_pay37 k0_pay12 v69) S := rfl

theorem o1_eq : k0_pay94 (k0_pay89 (k0_pay71 S) (k0_pay72 rh (k0_pay66 ah))) (k0_pay90 (k0_pay76 k0_pay5 k0_pay7 kh rh (k0_pay66 ah) (k0_pay67 bh)) (k0_pay77 k0_pay5 k0_pay7 kh rh (k0_pay66 ah) (k0_pay67 bh))) (k0_pay91 k0_pay5 (k0_pay69 v) (k0_pay71 S) (k0_pay72 rh (k0_pay66 ah)) (k0_pay75 k0_pay5 k0_pay6 kh rh (k0_pay66 ah) (k0_pay67 bh)) (k0_pay83 k0_pay5 k0_pay9 (k0_pay74 k0_pay5 k0_pay6 kh rh (k0_pay66 ah) (k0_pay67 bh)) (k0_pay81 k0_pay5 k0_pay8 (k0_pay78 k0_pay5 k0_pay6 k0_pay9 kh rh (k0_pay66 ah) (k0_pay67 bh)) (k0_pay79 k0_pay5 k0_pay6 k0_pay9 kh rh (k0_pay66 ah) (k0_pay67 bh)) (k0_pay80 k0_pay5 k0_pay6 k0_pay9 kh rh (k0_pay66 ah) (k0_pay67 bh))) (k0_pay82 k0_pay5 k0_pay8 k0_pay9 (k0_pay74 k0_pay5 k0_pay6 kh rh (k0_pay66 ah) (k0_pay67 bh)) (k0_pay78 k0_pay5 k0_pay6 k0_pay9 kh rh (k0_pay66 ah) (k0_pay67 bh)) (k0_pay79 k0_pay5 k0_pay6 k0_pay9 kh rh (k0_pay66 ah) (k0_pay67 bh)) (k0_pay80 k0_pay5 k0_pay6 k0_pay9 kh rh (k0_pay66 ah) (k0_pay67 bh)))) (k0_pay84 k0_pay9 (k0_pay74 k0_pay5 k0_pay6 kh rh (k0_pay66 ah) (k0_pay67 bh))) (k0_pay85 k0_pay5 k0_pay9 (k0_pay74 k0_pay5 k0_pay6 kh rh (k0_pay66 ah) (k0_pay67 bh))) k0_pay86) (k0_pay92 k0_pay5 (k0_pay69 v)) (k0_pay93 k0_pay5 (k0_pay69 v)) = o1V ah bh kh rh v S := rfl

theorem s1_eq : k0_pay95 k0_pay10 (k0_pay67 bh) (k0_pay68 kh) (k0_pay69 v) (k0_pay70 we) (k0_pay71 S) (k0_pay88 k0_pay5 (k0_pay69 v) (k0_pay71 S) (k0_pay72 rh (k0_pay66 ah)) (k0_pay75 k0_pay5 k0_pay6 kh rh (k0_pay66 ah) (k0_pay67 bh)) (k0_pay83 k0_pay5 k0_pay9 (k0_pay74 k0_pay5 k0_pay6 kh rh (k0_pay66 ah) (k0_pay67 bh)) (k0_pay81 k0_pay5 k0_pay8 (k0_pay78 k0_pay5 k0_pay6 k0_pay9 kh rh (k0_pay66 ah) (k0_pay67 bh)) (k0_pay79 k0_pay5 k0_pay6 k0_pay9 kh rh (k0_pay66 ah) (k0_pay67 bh)) (k0_pay80 k0_pay5 k0_pay6 k0_pay9 kh rh (k0_pay66 ah) (k0_pay67 bh))) (k0_pay82 k0_pay5 k0_pay8 k0_pay9 (k0_pay74 k0_pay5 k0_pay6 kh rh (k0_pay66 ah) (k0_pay67 bh)) (k0_pay78 k0_pay5 k0_pay6 k0_pay9 kh rh (k0_pay66 ah) (k0_pay67 bh)) (k0_pay79 k0_pay5 k0_pay6 k0_pay9 kh rh (k0_pay66 ah) (k0_pay67 bh)) (k0_pay80 k0_pay5 k0_pay6 k0_pay9 kh rh (k0_pay66 ah) (k0_pay67 bh)))) (k0_pay84 k0_pay9 (k0_pay74 k0_pay5 k0_pay6 kh rh (k0_pay66 ah) (k0_pay67 bh))) (k0_pay85 k0_pay5 k0_pay9 (k0_pay74 k0_pay5 k0_pay6 kh rh (k0_pay66 ah) (k0_pay67 bh))) k0_pay86) = s1V ah bh kh rh v we S := rfl

theorem o2_eq : k0_pay122 k0_pay5 (k0_pay98 v) (k0_pay105 k0_pay6 (k0_pay101 ah rh) (k0_pay102 k0_pay5 bh kh)) (k0_pay106 k0_pay7 (k0_pay101 ah rh) (k0_pay102 k0_pay5 bh kh)) (k0_pay107 k0_pay7 (k0_pay101 ah rh) (k0_pay102 k0_pay5 bh kh)) (k0_pay116 k0_pay5 k0_pay9 (k0_pay104 k0_pay6 (k0_pay101 ah rh) (k0_pay102 k0_pay5 bh kh)) (k0_pay112 k0_pay5 k0_pay9 (k0_pay104 k0_pay6 (k0_pay101 ah rh) (k0_pay102 k0_pay5 bh kh)) (k0_pay110 k0_pay5 k0_pay6 k0_pay9 (k0_pay101 ah rh) (k0_pay102 k0_pay5 bh kh)) (k0_pay111 k0_pay5 k0_pay6 k0_pay8 k0_pay9 (k0_pay101 ah rh) (k0_pay102 k0_pay5 bh kh))) (k0_pay113 k0_pay9 (k0_pay104 k0_pay6 (k0_pay101 ah rh) (k0_pay102 k0_pay5 bh kh))) (k0_pay114 k0_pay5 k0_pay9 (k0_pay104 k0_pay6 (k0_pay101 ah rh) (k0_pay102 k0_pay5 bh kh))) k0_pay115) (k0_pay117 (k0_pay100 S) (k0_pay101 ah rh)) (k0_pay118 (k0_pay100 S) (k0_pay101 ah rh)) (k0_pay119 k0_pay5 (k0_pay98 v)) k0_pay120 = o2V ah bh kh rh v S := rfl

theorem s2_eq : k0_pay124 (k0_pay123 k0_pay5 k0_pay10 (k0_pay96 bh) (k0_pay97 kh) (k0_pay98 v) (k0_pay99 we) (k0_pay100 S) (k0_pay105 k0_pay6 (k0_pay101 ah rh) (k0_pay102 k0_pay5 bh kh)) (k0_pay116 k0_pay5 k0_pay9 (k0_pay104 k0_pay6 (k0_pay101 ah rh) (k0_pay102 k0_pay5 bh kh)) (k0_pay112 k0_pay5 k0_pay9 (k0_pay104 k0_pay6 (k0_pay101 ah rh) (k0_pay102 k0_pay5 bh kh)) (k0_pay110 k0_pay5 k0_pay6 k0_pay9 (k0_pay101 ah rh) (k0_pay102 k0_pay5 bh kh)) (k0_pay111 k0_pay5 k0_pay6 k0_pay8 k0_pay9 (k0_pay101 ah rh) (k0_pay102 k0_pay5 bh kh))) (k0_pay113 k0_pay9 (k0_pay104 k0_pay6 (k0_pay101 ah rh) (k0_pay102 k0_pay5 bh kh))) (k0_pay114 k0_pay5 k0_pay9 (k0_pay104 k0_pay6 (k0_pay101 ah rh) (k0_pay102 k0_pay5 bh kh))) k0_pay115) (k0_pay118 (k0_pay100 S) (k0_pay101 ah rh)) (k0_pay119 k0_pay5 (k0_pay98 v)) k0_pay120) = s2V ah bh kh rh v we S := rfl

theorem s3_eq : k0_pay150 k0_pay10 (k0_pay125 bh) (k0_pay126 kh) (k0_pay127 v) (k0_pay128 we) (k0_pay129 S) (k0_pay146 k0_pay5 (k0_pay127 v) (k0_pay129 S) (k0_pay130 ah rh) (k0_pay132 k0_pay5 k0_pay6 ah bh kh rh) (k0_pay133 k0_pay5 k0_pay6 ah bh kh rh) (k0_pay142 k0_pay5 k0_pay9 (k0_pay132 k0_pay5 k0_pay6 ah bh kh rh) (k0_pay138 k0_pay5 k0_pay8 (k0_pay136 k0_pay5 k0_pay6 k0_pay9 ah bh kh rh) k0_pay137) (k0_pay139 k0_pay9 (k0_pay132 k0_pay5 k0_pay6 ah bh kh rh)) (k0_pay140 k0_pay5 k0_pay9 (k0_pay132 k0_pay5 k0_pay6 ah bh kh rh)) k0_pay141) (k0_pay143 k0_pay9) k0_pay144) = s3V ah bh kh rh v we S := rfl

end Cert.RwkvVec
end
-- ==== Proof.RwkvSpec.lean ====
module

public import proofs.«01_k».proof.Proof.RwkvChain
public import Idealize.ShloMosaic.Lib.Pointwise

/-! One batch of the mixer, token by token: the values every head needs, and that they are real numbers. -/

@[expose] public section

set_option maxRecDepth 16384

noncomputable section

namespace Cert.RwkvSpec
open Idealize.ShloMosaic Cert.RwkvVec

/-- Lane `k` of pair `p`. -/
def lp (p : Fin 4) (k : Fin 128) : Fin 512 := ⟨128 * p.val + k.val, by omega⟩

/-- The row before row `n`, zero before the first. -/
def prv (Q : ℕ → Fin 1792 → EReal) : ℕ → Fin 1792 → EReal
  | 0 => fun _ => 0
  | n + 1 => Q n

/-- The shifted row. -/
def qs (Q : ℕ → Fin 1792 → EReal) (mu : Fin 1792 → EReal) (n : ℕ) (j : Fin 1792) : EReal := Q n j + mu j * (prv Q n j - Q n j)

/-- The parts of the shifted row. -/
def rS (s : Fin 1792 → EReal) (x : Fin 512) : EReal := s ⟨x.val, by omega⟩
def kS (s : Fin 1792 → EReal) (x : Fin 512) : EReal := s ⟨512 + x.val, by omega⟩
def vS (s : Fin 1792 → EReal) (x : Fin 512) : EReal := s ⟨1024 + x.val, by omega⟩

/-- The logarithm of the decay. -/
def lwS (s : Fin 1792 → EReal) (w0 : Fin 512 → EReal) (wup : Fin 64 → Fin 512 → EReal) (x : Fin 512) : EReal :=
  Ideal.ofBits .f32 0xBF1B4598#32 * Ideal.logistic (w0 x + ∑ l : Fin 64, Ideal.tanh (s ⟨1536 + l.val, by omega⟩) * wup l x)

/-- The rate of a step. -/
def aS (s : Fin 1792 → EReal) (a0 : Fin 512 → EReal) (aup : Fin 64 → Fin 512 → EReal) (x : Fin 512) : EReal :=
  Ideal.logistic (a0 x + ∑ l : Fin 64, s ⟨1600 + l.val, by omega⟩ * aup l x)

/-- The gate. -/
def gS (s : Fin 1792 → EReal) (gup : Fin 128 → Fin 512 → EReal) (x : Fin 512) : EReal :=
  ∑ l : Fin 128, Ideal.logistic (s ⟨1664 + l.val, by omega⟩) * gup l x

/-- The scaled key and its direction. -/
def kk0S (s : Fin 1792 → EReal) (kk : Fin 512 → EReal) (x : Fin 512) : EReal := kS s x * kk x
def kkS (s : Fin 1792 → EReal) (kk : Fin 512 → EReal) (p : Fin 4) (h : Fin 2) (j : Fin 64) : EReal :=
  Ideal.div (kk0S s kk (lp p (ln h j))) (max (Ideal.sqrt (∑ l, kk0S s kk (lp p (ln h l)) * kk0S s kk (lp p (ln h l)))) (Ideal.ofBits .f32 0x2B8CBCCC#32))

/-- The key that enters the state. -/
def k2S (k a ka : EReal) : EReal := k * (1 + (a - 1) * ka)

/-- The output's lane: the normalised head, scaled and shifted, the direct term, the gate. -/
def dltS (o : Fin 64 → EReal) (j : Fin 64) : EReal := o j - (∑ l, o l) * Ideal.ofBits .f32 0x3C800000#32
def yS (o : Fin 64 → EReal) (gw gb bonus g : EReal) (j : Fin 64) : EReal :=
  (dltS o j * Ideal.rsqrt ((∑ l, dltS o l * dltS o l) * Ideal.ofBits .f32 0x3C800000#32 + Ideal.ofBits .f32 0x3A27C5AC#32) * gw + gb + bonus) * g

/-- The direct term. -/
def boS (r k rk : Fin 64 → EReal) (v : EReal) : EReal := (∑ l, r l * k l * rk l) * v

/-! ## Real values -/

/-- A real number. -/
def Re (x : EReal) : Prop := ∃ r : ℝ, x = (r : EReal)

theorem Re.coe (r : ℝ) : Re (r : EReal) := ⟨r, rfl⟩
theorem Re.zero : Re 0 := ⟨0, rfl⟩
theorem Re.add {x y : EReal} : Re x → Re y → Re (x + y) := by
  rintro ⟨a, rfl⟩ ⟨b, rfl⟩; exact ⟨a + b, (EReal.coe_add a b).symm⟩
theorem Re.sub {x y : EReal} : Re x → Re y → Re (x - y) := by
  rintro ⟨a, rfl⟩ ⟨b, rfl⟩; exact ⟨a - b, (EReal.coe_sub a b).symm⟩
theorem Re.mul {x y : EReal} : Re x → Re y → Re (x * y) := by
  rintro ⟨a, rfl⟩ ⟨b, rfl⟩; exact ⟨a * b, (EReal.coe_mul a b).symm⟩
theorem Re.sum {ι : Type} {s : Finset ι} {f : ι → EReal} (h : ∀ i, Re (f i)) : Re (∑ i ∈ s, f i) := by
  choose g hg using h
  exact ⟨∑ i ∈ s, g i, by rw [coe_sum]; exact Finset.sum_congr rfl fun i _ => hg i⟩

/-- A quotient by a nonzero real is real. -/
theorem Re.div {x : EReal} (hx : Re x) {r : ℝ} (hr : r ≠ 0) : Re (Ideal.div x (r : EReal)) := by
  obtain ⟨a, rfl⟩ := hx
  refine ⟨a * r⁻¹, ?_⟩
  have h : (r : EReal) ≠ 0 := by exact_mod_cast hr
  rw [Ideal.div, if_neg h, EReal.coe_mul, EReal.coe_inv]

/-- The logistic function's values are real. -/
theorem Re.logistic (x : EReal) : Re (Ideal.logistic x) := by
  induction x with
  | bot =>
    refine ⟨0, ?_⟩
    show Ideal.div 1 (1 + Ideal.exp (-⊥)) = _
    rw [EReal.neg_bot, show Ideal.exp ⊤ = ⊤ from rfl, show (1 : EReal) + ⊤ = ⊤ from rfl, Ideal.div, if_neg (by simp)]
    simp
  | top =>
    refine ⟨1, ?_⟩
    show Ideal.div 1 (1 + Ideal.exp (-⊤)) = _
    rw [EReal.neg_top, show Ideal.exp ⊥ = 0 from rfl, add_zero, Ideal.div, if_neg (by simp)]
    simp
  | coe a =>
    show Re (Ideal.div 1 (1 + Ideal.exp (-(a : EReal))))
    rw [← EReal.coe_neg, show Ideal.exp ((-a : ℝ) : EReal) = ((Real.exp (-a) : ℝ) : EReal) from rfl, ← EReal.coe_one, ← EReal.coe_add]
    exact (Re.coe 1).div (by have := Real.exp_pos (-a); positivity)

theorem ofBits_neg : Re (Ideal.ofBits .f32 0xBF1B4598#32) := by
  simp only [Ideal.ofBits, Ideal.ieee]
  norm_num
  exact ⟨_, rfl⟩

theorem ofBits_eps : ∃ r : ℝ, 0 < r ∧ Ideal.ofBits .f32 0x2B8CBCCC#32 = (r : EReal) := by
  refine ⟨9223372 * ((2 : ℝ) ^ 63)⁻¹, by positivity, ?_⟩
  simp [Ideal.ofBits, Ideal.ieee]

theorem ofBits_inv64 : Ideal.ofBits .f32 0x3C800000#32 = ((1 / 64 : ℝ) : EReal) := by
  simp [Ideal.ofBits, Ideal.ieee]
  rw [← EReal.coe_mul]
  norm_num

theorem ofBits_64 : Ideal.ofBits .f32 0x42800000#32 = ((64 : ℝ) : EReal) := by
  simp [Ideal.ofBits, Ideal.ieee]
  rw [← EReal.coe_mul]
  norm_num

/-- A product with 1/64 is a quotient by 64. -/
theorem div64 (x : EReal) : Ideal.div x (Ideal.ofBits .f32 0x42800000#32) = x * Ideal.ofBits .f32 0x3C800000#32 := by
  rw [ofBits_64, ofBits_inv64, Ideal.div, if_neg (by norm_num), ← EReal.coe_inv, one_div]

/-- A square root of a real sum of squares is real. -/
theorem Re.max_sqrt {x : EReal} (hx : Re x) (h0 : 0 ≤ x) : ∃ r : ℝ, r ≠ 0 ∧ max (Ideal.sqrt x) (Ideal.ofBits .f32 0x2B8CBCCC#32) = (r : EReal) := by
  obtain ⟨a, rfl⟩ := hx
  obtain ⟨e, he, h⟩ := ofBits_eps
  have ha : (0 : ℝ) ≤ a := by exact_mod_cast h0
  refine ⟨max (Real.sqrt a) e, (lt_max_of_lt_right he).ne', ?_⟩
  rw [h, show Ideal.sqrt (a : EReal) = ((Real.sqrt a : ℝ) : EReal) from if_neg (not_lt.2 ha)]
  exact (EReal.coe_strictMono.monotone.map_max).symm

theorem Re.qs {Q : ℕ → Fin 1792 → EReal} {mu : Fin 1792 → EReal} {j : Fin 1792} (hQ : ∀ n, Re (Q n j)) (hm : Re (mu j)) (n : ℕ) : Re (qs Q mu n j) := by
  refine (hQ n).add (hm.mul (Re.sub ?_ (hQ n)))
  cases n with
  | zero => exact Re.zero
  | succ n => exact hQ n

theorem mul_self_nonneg' (x : EReal) : 0 ≤ x * x := by
  induction x with
  | bot => simp
  | top => simp
  | coe a => rw [← EReal.coe_mul]; exact_mod_cast mul_self_nonneg a

/-- A square that is not of a real is infinite. -/
theorem mul_self_top {x : EReal} (h : ¬ Re x) : x * x = ⊤ := by
  induction x with
  | bot => simp
  | top => simp
  | coe a => exact absurd (Re.coe a) h

/-- The unit key is real whatever the key: where the key is infinite, its length is, and the quotient is zero. -/
theorem Re.kk (s : Fin 1792 → EReal) (kk : Fin 512 → EReal) (p : Fin 4) (h : Fin 2) (j : Fin 64) : Re (kkS s kk p h j) := by
  by_cases hz : ∀ l, Re (kk0S s kk (lp p (ln h l)))
  · have h2 : Re (∑ l, kk0S s kk (lp p (ln h l)) * kk0S s kk (lp p (ln h l))) := Re.sum fun l => (hz l).mul (hz l)
    obtain ⟨r, hr, e⟩ := h2.max_sqrt (Finset.sum_nonneg fun l _ => mul_self_nonneg' _)
    rw [kkS, e]
    exact (hz j).div hr
  · obtain ⟨l, hl⟩ := not_forall.1 hz
    have ht : ∑ l, kk0S s kk (lp p (ln h l)) * kk0S s kk (lp p (ln h l)) = ⊤ :=
      top_le_iff.1 ((mul_self_top hl).ge.trans (Finset.single_le_sum (f := fun l => kk0S s kk (lp p (ln h l)) * kk0S s kk (lp p (ln h l)))
        (fun l _ => mul_self_nonneg' _) (Finset.mem_univ l)))
    rw [kkS, ht, show Ideal.sqrt ⊤ = ⊤ from rfl, top_sup_eq, Ideal.div, if_neg EReal.top_ne_zero, EReal.inv_top, mul_zero]
    exact Re.zero

theorem Re.lw (s : Fin 1792 → EReal) (w0 : Fin 512 → EReal) (wup : Fin 64 → Fin 512 → EReal) (x : Fin 512) : Re (lwS s w0 wup x) :=
  ofBits_neg.mul (Re.logistic _)

theorem Re.k2 {k a ka : EReal} (hk : Re k) (ha : Re a) (hka : Re ka) : Re (k2S k a ka) := by
  exact hk.mul ((Re.coe 1).add ((ha.sub (Re.coe 1)).mul hka))

end Cert.RwkvSpec
end
-- ==== Proof.RwkvFinite.lean ====
module

public import proofs.«01_k».proof.Defs
public import proofs.«01_k».proof.Proof.RwkvSpec
public import Idealize.ShloMosaic.Lib.ReduceAll

/-! What the precondition `finite` says: the receptance, key and value columns of the projections and of the
token-shift weights, and the weight of the rate in the key, are real numbers. -/

@[expose] public section

set_option maxRecDepth 16384

noncomputable section

namespace Cert.RwkvFinite
open Idealize.ShloMosaic Idealize.ShloMosaic.Pipeline Cert.Pre_finite Cert.RwkvSpec

/-- The shape relations the precondition states. -/
instance facts : Cert.Pre_finite.Facts where
  slices_S32x2048x1792_S32x2048x1536_0_0_0 := by decide
  bcast_S_S32x2048x1536 := by decide
  reducesTo_S32x2048x1536_S_d0_1_2 := by decide
  h_S_ := by decide
  slices_S1x1792_S1x1536_0_0 := by decide
  bcast_S_S1x1536 := by decide
  reducesTo_S1x1536_S_d0_1 := by decide
  bcast_S_S1x512 := by decide
  reducesTo_S1x512_S_d0_1 := by decide

/-- A value whose size lies below another is a real number. -/
theorem re_of_lt {x y : EReal} (h : max x (-x) < y) : Re x := by
  have ht : x < ⊤ := (le_max_left x (-x)).trans_lt (h.trans_le le_top)
  have hb : -x < ⊤ := (le_max_right x (-x)).trans_lt (h.trans_le le_top)
  induction x with
  | bot => exact absurd hb (by simp)
  | top => exact absurd ht (lt_irrefl _)
  | coe r => exact Re.coe r

/-- Each entry of an array is real where its comparison answers one. -/
theorem re_of_cmp {s : Shape} {x y : FVec Ideal s .f32} {i : s.Idx} (h : cmpf .olt (Host.absf x) y i = 1#1) : Re (x i) := by
  have h' : Ideal.cmp .olt (max (x i) (-(x i))) (y i) = 1#1 := h
  refine re_of_lt (y := y i) ?_
  by_contra hn
  simp [Ideal.cmp, hn] at h'

instance : Subsingleton S_.Idx := ⟨fun a b => funext fun i => i.elim0⟩

/-- The first 1536 columns of the projections and of their weights are real, and the key's weight is. -/
theorem real {a0 : FVec Ideal S32x2048x1792 .f32} {a1 : FVec Ideal S1x1792 .f32} {a2 : FVec Ideal S1x512 .f32} {a3 : FVec Ideal S64x512 .f32}
    {a4 : FVec Ideal S1x512 .f32} {a5 : FVec Ideal S64x512 .f32} {a6 : FVec Ideal S128x512 .f32} {a7 a8 : FVec Ideal S1x512 .f32}
    {a9 : FVec Ideal S8x64 .f32} {a10 a11 : FVec Ideal S1x512 .f32}
    (h : Cert.Pre_finite.fn (F := Ideal) a0 a1 a2 a3 a4 a5 a6 a7 a8 a9 a10 a11 = fun _ => 1#1) :
    (∀ b n (j : Fin 1792), j.val < 1536 → Re (a0 (ix3 b n j))) ∧ (∀ j : Fin 1792, j.val < 1536 → Re (a1 (ix2 0 j))) ∧ ∀ i, Re (a8 i) := by
  have e := congrFun h (fun i => i.elim0)
  dsimp only [fn] at e
  obtain ⟨e, e8⟩ := IntOp.andi_eq_one.1 e
  obtain ⟨e0, e1⟩ := IntOp.andi_eq_one.1 e
  refine ⟨fun b n j hj => ?_, fun j hj => ?_, fun i => re_of_cmp (Host.reduce_andi_all _ _ _ _ _ e8 i)⟩
  · have r := re_of_cmp (Host.reduce_andi_all _ _ _ _ _ e0 (ix3 b n ⟨j.val, hj⟩))
    pointwise at r
    simpa using r
  · have r := re_of_cmp (Host.reduce_andi_all _ _ _ _ _ e1 (ix2 0 ⟨j.val, hj⟩))
    pointwise at r
    simpa using r

end Cert.RwkvFinite

end
-- ==== Proof.RwkvFrame.lean ====
module

public import proofs.«01_k».proof.Defs
public import proofs.«01_k».proof.Proof.Gen.RwkvIdeal
public import proofs.«01_k».proof.Proof.Gen.RwkvIdeal.Frame
public import proofs.«01_k».proof.Proof.Gen.Rwkv
public import proofs.«01_k».proof.Proof.Gen.Rwkv.Frame
public import proofs.«01_k».proof.Proof.Gen.RwkvRefIdeal.Run
public import proofs.«01_k».proof.Proof.RwkvFinite
public import Idealize.ShloMosaic.Lib.Claim

/-! The frame claims about the RWKV-7 mixer: every call ends, and leaves its arguments as they were. -/

@[expose] public section

set_option maxRecDepth 16384

noncomputable section

namespace Cert.RwkvFrame
open Idealize.ShloMosaic Idealize.SL.Sem

theorem frame_ideal : Cert.quiescent_RwkvIdeal := fun m ρ _ => Cert.RwkvIdeal.Gen.frame m ρ

theorem frame_bits : Cert.quiescent_Rwkv := fun m ρ _ => Cert.Rwkv.Gen.frame m ρ

theorem frame_ref : Cert.quiescent_RwkvRefIdeal := fun m ρ _ =>
  (θ_run Cert.RwkvRefIdeal.defs _ _).mono (fun r h => ⟨fun c => (h c).2, sem_eq_zero_of_no_sems (by decide) r.2⟩)
    (Cert.RwkvRefIdeal.Value.run m ρ)

/-- The same of the calls the precondition admits. -/
theorem frame_ideal_finite : Cert.quiescent_RwkvIdeal_pre_finite := fun m ρ _ => Cert.RwkvIdeal.Gen.frame m ρ

theorem frame_ref_finite : Cert.quiescent_RwkvRefIdeal_pre_finite := fun m ρ _ => frame_ref m ρ trivial

end Cert.RwkvFrame

end
-- ==== Proof.RwkvTrip.lean ====
module

public import proofs.«01_k».proof.Proof.Gen.RwkvRefIdeal.Run
public import Idealize.ShloMosaic.Lib.Pointwise

/-! The reference's loop: each step's state and output, entry by entry. -/

@[expose] public section

set_option maxRecDepth 16384

noncomputable section

namespace Cert.RwkvTrip
open Idealize.ShloMosaic Idealize.ShloMosaic.TcCoe Idealize.SL.Sem
open Cert.RwkvRefIdeal Cert.RwkvRefIdeal.Gen Cert.RwkvRefIdeal.Value

/-- The state after one step, from the state before it and the step's row. -/
def next (S : Fin 64 → Fin 64 → EReal) (w k v kk a : Fin 64 → EReal) (i j : Fin 64) : EReal :=
  S i j * w j + (∑ l, S i l * -kk l) * (kk j * a j) + v i * k j

def nextB (x7 : FVec Ideal S32x8x64x64 .f32) (x1 x2 x3 x4 x5 : FVec Ideal S2048x32x8x64 .f32) (n : IVec S_ 32) : FVec Ideal S32x8x64x64 .f32 :=
  let row (x : FVec Ideal S2048x32x8x64 .f32) : FVec Ideal S32x8x64 .f32 := shapeCast S32x8x64 (Host.dynamicSlice S1x32x8x64 x (fun k => (((![n, constantI S_ 32 0#32, constantI S_ 32 0#32, constantI S_ 32 0#32] : Fin 4 → (⟨S_, .i32⟩ : BufTy).Contents (Elt Ideal))) k (Shape.Idx.first h_S_)).toInt) sliceFits_S2048x32x8x64_S1x32x8x64) shapeCasts_S1x32x8x64_S32x8x64
  addf (addf (mulf x7 (broadcastInDim S32x8x64x64 ![0, 1, 2, 3] bcast_S32x8x1x64_S32x8x64x64_0_1_2_3 (broadcastInDim S32x8x1x64 ![0, 1, 3] bcast_S32x8x64_S32x8x1x64_0_1_3 (row x1))))
    (mulf (broadcastInDim S32x8x64x64 ![0, 1, 2, 3] bcast_S32x8x64x1_S32x8x64x64_0_1_2_3 (broadcastInDim S32x8x64x1 ![0, 1, 2] bcast_S32x8x64_S32x8x64x1_0_1_2 (Host.dotGeneral dot_S32x8x64x64_S32x8x64_S32x8x64_3_2_2_n_01_01 none x7 (Host.negf (row x4)))))
      (broadcastInDim S32x8x64x64 ![0, 1, 2, 3] bcast_S32x8x1x64_S32x8x64x64_0_1_2_3 (broadcastInDim S32x8x1x64 ![0, 1, 3] bcast_S32x8x64_S32x8x1x64_0_1_3 (mulf (row x4) (row x5))))))
    (mulf (broadcastInDim S32x8x64x64 ![0, 1, 2, 3] bcast_S32x8x64x1_S32x8x64x64_0_1_2_3 (broadcastInDim S32x8x64x1 ![0, 1, 2] bcast_S32x8x64_S32x8x64x1_0_1_2 (row x3)))
      (broadcastInDim S32x8x64x64 ![0, 1, 2, 3] bcast_S32x8x1x64_S32x8x64x64_0_1_2_3 (broadcastInDim S32x8x1x64 ![0, 1, 3] bcast_S32x8x64_S32x8x1x64_0_1_3 (row x2))))

theorem nextB_eq (V0 : Valuation τ sig (Elt Ideal)) : res_main_while0b_v170 V0
    = nextB (V0 (Proc.devRef .tc main_v69_7)) (V0 (Proc.devRef .tc main_v69_1)) (V0 (Proc.devRef .tc main_v69_2)) (V0 (Proc.devRef .tc main_v69_3)) (V0 (Proc.devRef .tc main_v69_4)) (V0 (Proc.devRef .tc main_v69_5)) (V0 (Proc.devRef .tc main_v69_6)) := rfl

theorem toInt_ofNat (n : Fin 2048) : (BitVec.ofNat 32 n.val).toInt = (n.val : Int) := by
  revert n; decide +kernel

theorem cs0 (n : Fin 2048) (ht : S1x32x8x64.rank = S2048x32x8x64.rank) :
    Host.clampedStart S2048x32x8x64 S1x32x8x64 ht (fun k => BitVec.toInt ((![(fun _ => BitVec.ofNat 32 n.val : IVec S_ 32), constantI S_ 32 0#32, constantI S_ 32 0#32, constantI S_ 32 0#32] : Fin 4 → (⟨S_, .i32⟩ : BufTy).Contents (Elt Ideal)) k (Shape.Idx.first h_S_))) 0 = n.val :=
  Host.clampedStart_of_le _ _ _ _ (by first | exact toInt_ofNat n | rfl) (by have := n.isLt; first | (show n.val + 1 ≤ 2048; omega) | (show 0 + _ ≤ _; decide +revert) | exact Nat.le_refl _)

theorem cs1 (n : Fin 2048) (ht : S1x32x8x64.rank = S2048x32x8x64.rank) :
    Host.clampedStart S2048x32x8x64 S1x32x8x64 ht (fun k => BitVec.toInt ((![(fun _ => BitVec.ofNat 32 n.val : IVec S_ 32), constantI S_ 32 0#32, constantI S_ 32 0#32, constantI S_ 32 0#32] : Fin 4 → (⟨S_, .i32⟩ : BufTy).Contents (Elt Ideal)) k (Shape.Idx.first h_S_))) 1 = 0 :=
  Host.clampedStart_of_le _ _ _ _ (by first | exact toInt_ofNat n | rfl) (by have := n.isLt; first | (show n.val + 1 ≤ 2048; omega) | (show 0 + _ ≤ _; decide +revert) | exact Nat.le_refl _)

theorem cs2 (n : Fin 2048) (ht : S1x32x8x64.rank = S2048x32x8x64.rank) :
    Host.clampedStart S2048x32x8x64 S1x32x8x64 ht (fun k => BitVec.toInt ((![(fun _ => BitVec.ofNat 32 n.val : IVec S_ 32), constantI S_ 32 0#32, constantI S_ 32 0#32, constantI S_ 32 0#32] : Fin 4 → (⟨S_, .i32⟩ : BufTy).Contents (Elt Ideal)) k (Shape.Idx.first h_S_))) 2 = 0 :=
  Host.clampedStart_of_le _ _ _ _ (by first | exact toInt_ofNat n | rfl) (by have := n.isLt; first | (show n.val + 1 ≤ 2048; omega) | (show 0 + _ ≤ _; decide +revert) | exact Nat.le_refl _)

theorem cs3 (n : Fin 2048) (ht : S1x32x8x64.rank = S2048x32x8x64.rank) :
    Host.clampedStart S2048x32x8x64 S1x32x8x64 ht (fun k => BitVec.toInt ((![(fun _ => BitVec.ofNat 32 n.val : IVec S_ 32), constantI S_ 32 0#32, constantI S_ 32 0#32, constantI S_ 32 0#32] : Fin 4 → (⟨S_, .i32⟩ : BufTy).Contents (Elt Ideal)) k (Shape.Idx.first h_S_))) 3 = 0 :=
  Host.clampedStart_of_le _ _ _ _ (by first | exact toInt_ofNat n | rfl) (by have := n.isLt; first | (show n.val + 1 ≤ 2048; omega) | (show 0 + _ ≤ _; decide +revert) | exact Nat.le_refl _)

theorem row_at (x : FVec Ideal S2048x32x8x64 .f32) (n : Fin 2048) (b : Fin 32) (h : Fin 8) (j : Fin 64) :
    (shapeCast S32x8x64 (Host.dynamicSlice S1x32x8x64 x (fun k => (((![(fun _ => BitVec.ofNat 32 n.val : IVec S_ 32), constantI S_ 32 0#32, constantI S_ 32 0#32, constantI S_ 32 0#32] : Fin 4 → (⟨S_, .i32⟩ : BufTy).Contents (Elt Ideal))) k (Shape.Idx.first h_S_)).toInt) sliceFits_S2048x32x8x64_S1x32x8x64) shapeCasts_S1x32x8x64_S32x8x64 : FVec Ideal S32x8x64 .f32) (ix3 b h j) = x (ix4 n b h j) := by
  pointwise [cs0, cs1, cs2, cs3]

theorem nextB_at (x7 : FVec Ideal S32x8x64x64 .f32) (x1 x2 x3 x4 x5 : FVec Ideal S2048x32x8x64 .f32) (n : Fin 2048) (b : Fin 32) (h : Fin 8) (i j : Fin 64) :
    nextB x7 x1 x2 x3 x4 x5 (fun _ => BitVec.ofNat 32 n.val) (ix4 b h i j)
      = next (fun i j => x7 (ix4 b h i j)) (fun j => x1 (ix4 n b h j)) (fun j => x2 (ix4 n b h j)) (fun j => x3 (ix4 n b h j))
        (fun j => x4 (ix4 n b h j)) (fun j => x5 (ix4 n b h j)) i j := by
  unfold nextB
  pointwise [row_at, next]

def outB (y7 : FVec Ideal S32x8x64x64 .f32) (x0 x8 : FVec Ideal S2048x32x8x64 .f32) (n : IVec S_ 32) : FVec Ideal S2048x32x8x64 .f32 :=
  Host.dynamicUpdateSlice x8 (broadcastInDim S1x32x8x64 ![1, 2, 3] bcast_S32x8x64_S1x32x8x64_1_2_3 (Host.dotGeneral dot_S32x8x64x64_S32x8x64_S32x8x64_3_2_2_n_01_01 none y7 (shapeCast S32x8x64 (Host.dynamicSlice S1x32x8x64 x0 (fun k => (((![n, constantI S_ 32 0#32, constantI S_ 32 0#32, constantI S_ 32 0#32] : Fin 4 → (⟨S_, .i32⟩ : BufTy).Contents (Elt Ideal))) k (Shape.Idx.first h_S_)).toInt) sliceFits_S2048x32x8x64_S1x32x8x64) shapeCasts_S1x32x8x64_S32x8x64))) (fun k => (((![n, constantI S_ 32 0#32, constantI S_ 32 0#32, constantI S_ 32 0#32] : Fin 4 → (⟨S_, .i32⟩ : BufTy).Contents (Elt Ideal))) k (Shape.Idx.first h_S_)).toInt) updateFits_S2048x32x8x64_S1x32x8x64

theorem outB_eq (V0 : Valuation τ sig (Elt Ideal)) : step_main_v69_8 V0
    = outB (res_main_while0b_v170 V0) (V0 (Proc.devRef .tc main_v69_0)) (V0 (Proc.devRef .tc main_v69_8)) (V0 (Proc.devRef .tc main_v69_6)) := by
  unfold step_main_v69_8 outB
  rw [id]
  try rfl

theorem outB_at (y7 : FVec Ideal S32x8x64x64 .f32) (x0 x8 : FVec Ideal S2048x32x8x64 .f32) (n t : Fin 2048) (b : Fin 32) (h : Fin 8) (i : Fin 64) :
    outB y7 x0 x8 (fun _ => BitVec.ofNat 32 n.val) (ix4 t b h i)
      = if t = n then ∑ l, y7 (ix4 b h i l) * x0 (ix4 n b h l) else x8 (ix4 t b h i) := by
  unfold outB
  pointwise [row_at, cs0, cs1, cs2, cs3]
  by_cases ht : t = n
  · subst ht
    rw [dif_pos (by omega), if_pos rfl]
  · have := Fin.val_ne_of_ne ht
    rw [dif_neg (by omega), if_neg ht]

end Cert.RwkvTrip
end
-- ==== Proof.RwkvScan.lean ====
module

public import proofs.«01_k».proof.Proof.RwkvTrip

/-! The reference's loop after any number of steps. -/

@[expose] public section

set_option maxRecDepth 16384

noncomputable section

namespace Cert.RwkvTrip
open Idealize.ShloMosaic Idealize.ShloMosaic.TcCoe Idealize.SL.Sem
open Cert.RwkvRefIdeal Cert.RwkvRefIdeal.Gen Cert.RwkvRefIdeal.Value

/-- The states of one head, from the steps' rows. -/
def seq (w k v kk a : ℕ → Fin 64 → EReal) : ℕ → Fin 64 → Fin 64 → EReal
  | 0 => fun _ _ => 0
  | n + 1 => next (seq w k v kk a n) (w n) (k n) (v n) (kk n) (a n)

/-- Step `n`'s row of one batch and head. -/
def rowOf (x : FVec Ideal S2048x32x8x64 .f32) (b : Fin 32) (h : Fin 8) (n : ℕ) (j : Fin 64) : EReal :=
  x (ix4 ⟨n % 2048, by omega⟩ b h j)

/-- The loop's arrays before it, and their rows. -/
abbrev X0 (E : Valuation τ sig (Elt Ideal)) : FVec Ideal S2048x32x8x64 .f32 := E (Proc.devRef .tc main_v69_0)
abbrev X1 (E : Valuation τ sig (Elt Ideal)) : FVec Ideal S2048x32x8x64 .f32 := E (Proc.devRef .tc main_v69_1)
abbrev X2 (E : Valuation τ sig (Elt Ideal)) : FVec Ideal S2048x32x8x64 .f32 := E (Proc.devRef .tc main_v69_2)
abbrev X3 (E : Valuation τ sig (Elt Ideal)) : FVec Ideal S2048x32x8x64 .f32 := E (Proc.devRef .tc main_v69_3)
abbrev X4 (E : Valuation τ sig (Elt Ideal)) : FVec Ideal S2048x32x8x64 .f32 := E (Proc.devRef .tc main_v69_4)
abbrev X5 (E : Valuation τ sig (Elt Ideal)) : FVec Ideal S2048x32x8x64 .f32 := E (Proc.devRef .tc main_v69_5)
abbrev X6 (E : Valuation τ sig (Elt Ideal)) : IVec S_ 32 := E (Proc.devRef .tc main_v69_6)
abbrev X7 (E : Valuation τ sig (Elt Ideal)) : FVec Ideal S32x8x64x64 .f32 := E (Proc.devRef .tc main_v69_7)
abbrev X8 (E : Valuation τ sig (Elt Ideal)) : FVec Ideal S2048x32x8x64 .f32 := E (Proc.devRef .tc main_v69_8)

/-- The states of batch `b`, head `h`. -/
def seqE (E : Valuation τ sig (Elt Ideal)) (b : Fin 32) (h : Fin 8) : ℕ → Fin 64 → Fin 64 → EReal :=
  seq (rowOf (X1 E) b h) (rowOf (X2 E) b h) (rowOf (X3 E) b h) (rowOf (X4 E) b h) (rowOf (X5 E) b h)

theorem loop (E : Valuation τ sig (Elt Ideal)) (h6 : X6 E = fun _ => 0#32) (h7 : ∀ b h i j, X7 E (ix4 b h i j) = 0) (n : ℕ) (hn : n ≤ 2048) :
    (X0 (STEP^[n] E) = X0 E ∧ X1 (STEP^[n] E) = X1 E ∧ X2 (STEP^[n] E) = X2 E ∧ X3 (STEP^[n] E) = X3 E ∧ X4 (STEP^[n] E) = X4 E ∧ X5 (STEP^[n] E) = X5 E)
    ∧ X6 (STEP^[n] E) = (fun _ => BitVec.ofNat 32 n) ∧ (∀ b h i j, X7 (STEP^[n] E) (ix4 b h i j) = seqE E b h n i j)
    ∧ ∀ (t : Fin 2048) b h i, t.val < n → X8 (STEP^[n] E) (ix4 t b h i) = ∑ l, seqE E b h (t.val + 1) i l * X0 E (ix4 t b h l) := by
  induction n with
  | zero => exact ⟨⟨rfl, rfl, rfl, rfl, rfl, rfl⟩, h6, h7, fun t b h i ht => absurd ht (by omega)⟩
  | succ n ih =>
    obtain ⟨⟨e0, e1, e2, e3, e4, e5⟩, e6, e7, e8⟩ := ih (by omega)
    rw [Function.iterate_succ_apply']
    generalize STEP^[n] E = V at e0 e1 e2 e3 e4 e5 e6 e7 e8 ⊢
    have s7 : ∀ b h i j, (res_main_while0b_v170 V : FVec Ideal S32x8x64x64 .f32) (ix4 b h i j) = seqE E b h (n + 1) i j := by
      intro b h i j
      rw [nextB_eq]
      change nextB (X7 V) (X1 V) (X2 V) (X3 V) (X4 V) (X5 V) (X6 V) _ = _
      rw [e1, e2, e3, e4, e5, e6]
      have hk := nextB_at (X7 V) (X1 E) (X2 E) (X3 E) (X4 E) (X5 E) ⟨n, by omega⟩ b h i j
      refine hk.trans ?_
      have hm : (⟨n, by omega⟩ : Fin 2048) = ⟨n % 2048, by omega⟩ := Fin.ext (Nat.mod_eq_of_lt (by omega)).symm
      simp only [e7, hm]
      rfl
    refine ⟨⟨(STEP_main_v69_0 V).trans e0, (STEP_main_v69_1 V).trans e1, (STEP_main_v69_2 V).trans e2, (STEP_main_v69_3 V).trans e3,
      (STEP_main_v69_4 V).trans e4, (STEP_main_v69_5 V).trans e5⟩, ?_, ?_, ?_⟩
    · refine (STEP_main_v69_6 V).trans ?_
      unfold step_main_v69_6
      change addi (X6 V) (constantI S_ 32 1#32) = _
      rw [e6]
      funext i
      show BitVec.ofNat 32 n + 1#32 = BitVec.ofNat 32 (n + 1)
      rw [BitVec.ofNat_add]
    · intro b h i j
      refine (congrFun (STEP_main_v69_7 V) _).trans ?_
      exact s7 b h i j
    · intro t b h i ht
      refine (congrFun (STEP_main_v69_8 V) _).trans ?_
      rw [outB_eq]
      change outB _ (X0 V) (X8 V) (X6 V) _ = _
      rw [e0, e6]
      refine (outB_at _ (X0 E) (X8 V) ⟨n, by omega⟩ t b h i).trans ?_
      by_cases htn : t = ⟨n, by omega⟩
      · rw [if_pos htn, htn]
        simp only [s7]
      · rw [if_neg htn]
        refine e8 t b h i ?_
        have : t.val ≠ n := fun e => htn (Fin.ext e)
        omega

end Cert.RwkvTrip
end
-- ==== Proof.RwkvEntry.lean ====
module

public import proofs.«01_k».proof.Proof.RwkvScan
public import proofs.«01_k».proof.Proof.RwkvSpec

/-! The reference's arrays before its loop, entry by entry. -/

@[expose] public section

set_option maxRecDepth 16384

noncomputable section

namespace Cert.RwkvEntry
open Idealize.ShloMosaic Idealize.ShloMosaic.TcCoe Idealize.SL.Sem
open Cert.RwkvRefIdeal Cert.RwkvRefIdeal.Gen Cert.RwkvRefIdeal.Value Cert.RwkvTrip Cert.RwkvSpec
open Idealize.ShloMosaic.StableHlo Idealize.ShloMosaic.Pipeline

/-- The lane `j` of head `h`. -/
def l8 (h : Fin 8) (j : Fin 64) : Fin 512 := ⟨64 * h.val + j.val, by omega⟩

/-- The rows of a batch. -/
def Qr (A0 : FVec Ideal S32x2048x1792 .f32) (b : Fin 32) (n : ℕ) (j : Fin 1792) : EReal := A0 (ix3 b ⟨n % 2048, by omega⟩ j)

section
variable (A0 : FVec Ideal S32x2048x1792 .f32) (A1 : FVec Ideal S1x1792 .f32) (A2 : FVec Ideal S1x512 .f32) (A3 : FVec Ideal S64x512 .f32)
  (A4 : FVec Ideal S1x512 .f32) (A5 : FVec Ideal S64x512 .f32) (A6 : FVec Ideal S128x512 .f32) (A7 A8 : FVec Ideal S1x512 .f32)

/-- The shifted rows. -/
def shV : FVec Ideal S32x2048x1792 .f32 := extractStridedSlice S32x2048x1792 ![0, 0, 0] (pad S32x2049x1792 ![0, 1, 0] ![0, 0, 0] ![0, 0, 0] A0 (sitofp .f32 (constantI S_ 32 0#32)) pads_S32x2048x1792_S32x2049x1792_000_100_000 h_S_) slices_S32x2049x1792_S32x2048x1792_0_0_0
def QS : FVec Ideal S32x2048x1792 .f32 := addf A0 (mulf (broadcastInDim S32x2048x1792 ![0, 1, 2] bcast_S1x1x1792_S32x2048x1792_0_1_2 (broadcastInDim S1x1x1792 ![1, 2] bcast_S1x1792_S1x1x1792_1_2 A1)) (subf (shV A0) A0))
def one3 : FVec Ideal S32x2048x512 .f32 := broadcastInDim S32x2048x512 ![] bcast_S_S32x2048x512 (constant S_ .f32 0x3F800000#32)
def rowV (A : FVec Ideal S1x512 .f32) : FVec Ideal S32x2048x512 .f32 := broadcastInDim S32x2048x512 ![0, 1, 2] bcast_S1x1x512_S32x2048x512_0_1_2 (broadcastInDim S1x1x512 ![1, 2] bcast_S1x512_S1x1x512_1_2 A)
def SIG (y : FVec Ideal S32x2048x512 .f32) : FVec Ideal S32x2048x512 .f32 := Host.divf one3 (addf one3 (Host.exp (Host.negf y)))
def hd (y : FVec Ideal S32x2048x512 .f32) : FVec Ideal S32x2048x8x64 .f32 := shapeCast _ y shapeCasts_S32x2048x512_S32x2048x8x64
def tr (y : FVec Ideal S32x2048x8x64 .f32) : FVec Ideal S2048x32x8x64 .f32 := transpose S2048x32x8x64 [1, 0, 2, 3] y transposes_S32x2048x8x64_S2048x32x8x64_1_0_2_3
def rV : FVec Ideal S32x2048x512 .f32 := extractStridedSlice S32x2048x512 ![0, 0, 0] (QS A0 A1) slices_S32x2048x1792_S32x2048x512_0_0_0
def kV : FVec Ideal S32x2048x512 .f32 := extractStridedSlice S32x2048x512 ![0, 0, 512] (QS A0 A1) slices_S32x2048x1792_S32x2048x512_0_0_512
def vV : FVec Ideal S32x2048x512 .f32 := extractStridedSlice S32x2048x512 ![0, 0, 1024] (QS A0 A1) slices_S32x2048x1792_S32x2048x512_0_0_1024
def aV : FVec Ideal S32x2048x512 .f32 := SIG (addf (rowV A4) (Host.dotGeneral dot_S32x2048x64_S64x512_S32x2048x512_2_0_01_1_n_n none (extractStridedSlice S32x2048x64 ![0, 0, 1600] (QS A0 A1) slices_S32x2048x1792_S32x2048x64_0_0_1600) A5))
def wV : FVec Ideal S32x2048x512 .f32 := Host.exp (mulf (broadcastInDim S32x2048x512 ![] bcast_S_S32x2048x512 (constant S_ .f32 0xBF1B4598#32)) (SIG (addf (rowV A2) (Host.dotGeneral dot_S32x2048x64_S64x512_S32x2048x512_2_0_01_1_n_n none (Host.tanh (extractStridedSlice S32x2048x64 ![0, 0, 1536] (QS A0 A1) slices_S32x2048x1792_S32x2048x64_0_0_1536)) A3))))
def k2V : FVec Ideal S32x2048x512 .f32 := mulf (kV A0 A1) (addf one3 (mulf (subf (aV A0 A1 A4 A5) one3) (rowV A8)))
def kkV0 : FVec Ideal S32x2048x8x64 .f32 := hd (mulf (kV A0 A1) (rowV A7))
def kkV : FVec Ideal S32x2048x8x64 .f32 := Host.divf (kkV0 A0 A1 A7) (broadcastInDim S32x2048x8x64 ![0, 1, 2, 3] bcast_S32x2048x8x1_S32x2048x8x64_0_1_2_3 (maximumf (Host.sqrt (broadcastInDim S32x2048x8x1 ![0, 1, 2] bcast_S32x2048x8_S32x2048x8x1_0_1_2 (Host.reduceAdd (mulf (kkV0 A0 A1 A7) (kkV0 A0 A1 A7)) (constant S_ .f32 0x00000000#32) reducesTo_S32x2048x8x64_S32x2048x8_d3 h_S_))) (broadcastInDim S32x2048x8x1 ![] bcast_S_S32x2048x8x1 (constant S_ .f32 0x2B8CBCCC#32))))

theorem sit0 : (FloatOps.sitofp .f32 (0#32 : BitVec 32) : Ideal .f32) = 0 := by
  show (((0#32 : BitVec 32).toInt : ℝ) : EReal) = 0
  simp

theorem Qr_at (b : Fin 32) (n : Fin 2048) (j : Fin 1792) : Qr A0 b n.val j = A0 (ix3 b n j) :=
  congrArg (fun n => A0 (ix3 b n j)) (Fin.ext (Nat.mod_eq_of_lt n.isLt))

theorem sh_at (b : Fin 32) (n : Fin 2048) (j : Fin 1792) : shV A0 (ix3 b n j) = prv (Qr A0 b) n.val j := by
  obtain ⟨n, hn⟩ := n
  cases n with
  | zero => pointwise [shV, prv]; exact sit0
  | succ n =>
    pointwise [shV, prv, Qr]
    rw [dif_pos (by omega)]
    exact congrArg (fun n => A0 (ix3 b n j)) (Fin.ext (by simp only []; omega))

theorem QS_at (b : Fin 32) (n : Fin 2048) (j : Fin 1792) : QS A0 A1 (ix3 b n j) = qs (Qr A0 b) (fun j => A1 (ix2 0 j)) n.val j := by
  pointwise [QS, sh_at, qs, Qr_at]

theorem SIG_at (y) (b : Fin 32) (n : Fin 2048) (x : Fin 512) : SIG y (ix3 b n x) = Ideal.logistic (y (ix3 b n x)) := by
  pointwise [SIG, one3, Ideal.logistic]

theorem hd_at (y) (b : Fin 32) (n : Fin 2048) (h : Fin 8) (j : Fin 64) : hd y (ix4 b n h j) = y (ix3 b n (l8 h j)) := by
  pointwise [hd, l8]
  exact congrArg (fun x => y (ix3 b n x)) (Fin.ext (by simp only []; omega))

theorem tr_at (y) (b : Fin 32) (n : Fin 2048) (h : Fin 8) (j : Fin 64) : tr y (ix4 n b h j) = y (ix4 b n h j) := by
  pointwise [tr]

theorem row_at (A) (b : Fin 32) (n : Fin 2048) (x : Fin 512) : rowV A (ix3 b n x) = A (ix2 0 x) := by
  pointwise [rowV]

theorem r_at (b : Fin 32) (n : Fin 2048) (x : Fin 512) : rV A0 A1 (ix3 b n x) = rS (qs (Qr A0 b) (fun j => A1 (ix2 0 j)) n.val) x := by
  pointwise [rV, QS_at, rS]
theorem k_at (b : Fin 32) (n : Fin 2048) (x : Fin 512) : kV A0 A1 (ix3 b n x) = kS (qs (Qr A0 b) (fun j => A1 (ix2 0 j)) n.val) x := by
  pointwise [kV, QS_at, kS]
theorem v_at (b : Fin 32) (n : Fin 2048) (x : Fin 512) : vV A0 A1 (ix3 b n x) = vS (qs (Qr A0 b) (fun j => A1 (ix2 0 j)) n.val) x := by
  pointwise [vV, QS_at, vS]
theorem a_at (b : Fin 32) (n : Fin 2048) (x : Fin 512) : aV A0 A1 A4 A5 (ix3 b n x)
    = aS (qs (Qr A0 b) (fun j => A1 (ix2 0 j)) n.val) (fun x => A4 (ix2 0 x)) (fun l x => A5 (ix2 l x)) x := by
  rw [aV, SIG_at, aS]
  refine congrArg _ ?_
  pointwise [row_at, QS_at]
theorem w_at (b : Fin 32) (n : Fin 2048) (x : Fin 512) : wV A0 A1 A2 A3 (ix3 b n x)
    = Ideal.exp (lwS (qs (Qr A0 b) (fun j => A1 (ix2 0 j)) n.val) (fun x => A2 (ix2 0 x)) (fun l x => A3 (ix2 l x)) x) := by
  pointwise [wV, SIG_at, lwS, row_at, QS_at]
theorem k2_at (b : Fin 32) (n : Fin 2048) (x : Fin 512) : k2V A0 A1 A4 A5 A8 (ix3 b n x)
    = k2S (kS (qs (Qr A0 b) (fun j => A1 (ix2 0 j)) n.val) x) (aS (qs (Qr A0 b) (fun j => A1 (ix2 0 j)) n.val) (fun x => A4 (ix2 0 x)) (fun l x => A5 (ix2 l x)) x) (A8 (ix2 0 x)) := by
  pointwise [k2V, one3, k_at, a_at, row_at, k2S]
theorem kk0_at (b : Fin 32) (n : Fin 2048) (h : Fin 8) (j : Fin 64) : kkV0 A0 A1 A7 (ix4 b n h j)
    = kk0S (qs (Qr A0 b) (fun j => A1 (ix2 0 j)) n.val) (fun x => A7 (ix2 0 x)) (l8 h j) := by
  rw [kkV0, hd_at]
  pointwise [k_at, row_at, kk0S]
theorem kk_at (b : Fin 32) (n : Fin 2048) (h : Fin 8) (j : Fin 64) : kkV A0 A1 A7 (ix4 b n h j)
    = Ideal.div (kk0S (qs (Qr A0 b) (fun j => A1 (ix2 0 j)) n.val) (fun x => A7 (ix2 0 x)) (l8 h j))
      (max (Ideal.sqrt (∑ l : Fin 64, kk0S (qs (Qr A0 b) (fun j => A1 (ix2 0 j)) n.val) (fun x => A7 (ix2 0 x)) (l8 h l) * kk0S (qs (Qr A0 b) (fun j => A1 (ix2 0 j)) n.val) (fun x => A7 (ix2 0 x)) (l8 h l))) (Ideal.ofBits .f32 0x2B8CBCCC#32)) := by
  pointwise [kkV, kk0_at]
end

variable (m : (ℓ : Loc nD τ sig) → Buf (Elt Ideal) ℓ)

theorem X0_eq (c : Dev nD) : X0 (entryContents preI m c) = tr (hd (rV (launchContents m c (Proc.tc.devRef main_arg0)) (launchContents m c (Proc.tc.devRef main_arg1)))) := by
  unfold X0
  simp only [entryContents, afterL_cons, afterL_nil]
  after_reads_simp
  rfl

theorem X1_eq (c : Dev nD) : X1 (entryContents preI m c) = tr (hd (wV (launchContents m c (Proc.tc.devRef main_arg0)) (launchContents m c (Proc.tc.devRef main_arg1)) (launchContents m c (Proc.tc.devRef main_arg2)) (launchContents m c (Proc.tc.devRef main_arg3)))) := by
  unfold X1
  simp only [entryContents, afterL_cons, afterL_nil]
  after_reads_simp
  rfl
theorem X2_eq (c : Dev nD) : X2 (entryContents preI m c) = tr (hd (k2V (launchContents m c (Proc.tc.devRef main_arg0)) (launchContents m c (Proc.tc.devRef main_arg1)) (launchContents m c (Proc.tc.devRef main_arg4)) (launchContents m c (Proc.tc.devRef main_arg5)) (launchContents m c (Proc.tc.devRef main_arg8)))) := by
  unfold X2
  simp only [entryContents, afterL_cons, afterL_nil]
  after_reads_simp
  rfl
theorem X3_eq (c : Dev nD) : X3 (entryContents preI m c) = tr (hd (vV (launchContents m c (Proc.tc.devRef main_arg0)) (launchContents m c (Proc.tc.devRef main_arg1)))) := by
  unfold X3
  simp only [entryContents, afterL_cons, afterL_nil]
  after_reads_simp
  rfl
theorem X4_eq (c : Dev nD) : X4 (entryContents preI m c) = tr (kkV (launchContents m c (Proc.tc.devRef main_arg0)) (launchContents m c (Proc.tc.devRef main_arg1)) (launchContents m c (Proc.tc.devRef main_arg7))) := by
  unfold X4
  simp only [entryContents, afterL_cons, afterL_nil]
  after_reads_simp
  rfl
theorem X5_eq (c : Dev nD) : X5 (entryContents preI m c) = tr (hd (aV (launchContents m c (Proc.tc.devRef main_arg0)) (launchContents m c (Proc.tc.devRef main_arg1)) (launchContents m c (Proc.tc.devRef main_arg4)) (launchContents m c (Proc.tc.devRef main_arg5)))) := by
  unfold X5
  simp only [entryContents, afterL_cons, afterL_nil]
  after_reads_simp
  rfl
theorem X7_eq (c : Dev nD) (b h i j) : X7 (entryContents preI m c) (ix4 b h i j) = 0 := by
  unfold X7
  simp only [entryContents, afterL_cons, afterL_nil]
  after_reads_simp
  rw [id]
  pointwise

end Cert.RwkvEntry
end
-- ==== Proof.RwkvOut.lean ====
module

public import proofs.«01_k».proof.Proof.RwkvEntry

/-! The reference's output after its loop, entry by entry. -/

@[expose] public section

set_option maxRecDepth 16384

noncomputable section

namespace Cert.RwkvEntry
open Idealize.ShloMosaic Idealize.ShloMosaic.TcCoe Idealize.SL.Sem
open Cert.RwkvRefIdeal Cert.RwkvRefIdeal.Gen Cert.RwkvRefIdeal.Value Cert.RwkvTrip Cert.RwkvSpec
open Idealize.ShloMosaic.StableHlo Idealize.ShloMosaic.Pipeline

section
variable (A0 : FVec Ideal S32x2048x1792 .f32) (A1 : FVec Ideal S1x1792 .f32) (A4 : FVec Ideal S1x512 .f32) (A5 : FVec Ideal S64x512 .f32)
  (A6 : FVec Ideal S128x512 .f32) (A8 : FVec Ideal S1x512 .f32) (A9 : FVec Ideal S8x64 .f32) (A10 A11 : FVec Ideal S1x512 .f32) (O : FVec Ideal S2048x32x8x64 .f32)

/-- The heads' outputs, their means and their differences from them. -/
def oT : FVec Ideal S32x2048x8x64 .f32 := transpose S32x2048x8x64 [1, 0, 2, 3] O transposes_S2048x32x8x64_S32x2048x8x64_1_0_2_3
def sumV (y : FVec Ideal S32x2048x8x64 .f32) : FVec Ideal S32x2048x8x1 .f32 := broadcastInDim S32x2048x8x1 ![0, 1, 2] bcast_S32x2048x8_S32x2048x8x1_0_1_2 (Host.reduceAdd y (constant S_ .f32 0x00000000#32) reducesTo_S32x2048x8x64_S32x2048x8_d3 h_S_)
def meanV (y : FVec Ideal S32x2048x8x64 .f32) : FVec Ideal S32x2048x8x1 .f32 := Host.divf (sumV y) (broadcastInDim S32x2048x8x1 ![] bcast_S_S32x2048x8x1 (constant S_ .f32 0x42800000#32))
def spr (y : FVec Ideal S32x2048x8x1 .f32) : FVec Ideal S32x2048x8x64 .f32 := broadcastInDim S32x2048x8x64 ![0, 1, 2, 3] bcast_S32x2048x8x1_S32x2048x8x64_0_1_2_3 y
def dl : FVec Ideal S32x2048x8x64 .f32 := subf (oT O) (spr (meanV (oT O)))
def nrm : FVec Ideal S32x2048x8x64 .f32 := mulf (dl O) (spr (Host.rsqrt (addf (meanV (mulf (dl O) (dl O))) (broadcastInDim S32x2048x8x1 ![] bcast_S_S32x2048x8x1 (constant S_ .f32 0x3A27C5AC#32)))))
def un (y : FVec Ideal S32x2048x8x64 .f32) : FVec Ideal S32x2048x512 .f32 := shapeCast _ y shapeCasts_S32x2048x8x64_S32x2048x512
def boV : FVec Ideal S32x2048x8x64 .f32 := mulf (spr (sumV (mulf (mulf (hd (rV A0 A1)) (hd (k2V A0 A1 A4 A5 A8))) (broadcastInDim S32x2048x8x64 ![0, 1, 2, 3] bcast_S1x1x8x64_S32x2048x8x64_0_1_2_3 (broadcastInDim S1x1x8x64 ![2, 3] bcast_S8x64_S1x1x8x64_2_3 A9))))) (hd (vV A0 A1))
def one1 : FVec Ideal S32x2048x128 .f32 := broadcastInDim S32x2048x128 ![] bcast_S_S32x2048x128 (constant S_ .f32 0x3F800000#32)
def sg : FVec Ideal S32x2048x128 .f32 := Host.divf one1 (addf one1 (Host.exp (Host.negf (extractStridedSlice S32x2048x128 ![0, 0, 1664] (QS A0 A1) slices_S32x2048x1792_S32x2048x128_0_0_1664))))
def gV : FVec Ideal S32x2048x512 .f32 := Host.dotGeneral dot_S32x2048x128_S128x512_S32x2048x512_2_0_01_1_n_n none (sg A0 A1) A6
def outV : FVec Ideal S32x2048x512 .f32 := mulf (addf (addf (mulf (un (nrm O)) (rowV A10)) (rowV A11)) (un (boV A0 A1 A4 A5 A8 A9))) (gV A0 A1 A6)

theorem un_at (y) (b : Fin 32) (n : Fin 2048) (h : Fin 8) (j : Fin 64) : un y (ix3 b n (l8 h j)) = y (ix4 b n h j) := by
  pointwise [un, l8]

theorem oT_at (b : Fin 32) (n : Fin 2048) (h : Fin 8) (j : Fin 64) : oT O (ix4 b n h j) = O (ix4 n b h j) := by
  pointwise [oT]
theorem mean_at (y) (b : Fin 32) (n : Fin 2048) (h : Fin 8) : meanV y (ix4 b n h 0) = (∑ l : Fin 64, y (ix4 b n h l)) * Ideal.ofBits .f32 0x3C800000#32 := by
  pointwise [meanV, sumV]
  exact div64 _
theorem dl_at (b : Fin 32) (n : Fin 2048) (h : Fin 8) (j : Fin 64) : dl O (ix4 b n h j) = dltS (fun j => O (ix4 n b h j)) j := by
  pointwise [dl, spr, oT_at, mean_at, dltS]
theorem nrm_at (b : Fin 32) (n : Fin 2048) (h : Fin 8) (j : Fin 64) : nrm O (ix4 b n h j)
    = dltS (fun j => O (ix4 n b h j)) j * Ideal.rsqrt ((∑ l, dltS (fun j => O (ix4 n b h j)) l * dltS (fun j => O (ix4 n b h j)) l) * Ideal.ofBits .f32 0x3C800000#32 + Ideal.ofBits .f32 0x3A27C5AC#32) := by
  pointwise [nrm, spr, dl_at, mean_at]
theorem bo_at (b : Fin 32) (n : Fin 2048) (h : Fin 8) (j : Fin 64) : boV A0 A1 A4 A5 A8 A9 (ix4 b n h j)
    = boS (fun j => rS (qs (Qr A0 b) (fun j => A1 (ix2 0 j)) n.val) (l8 h j))
      (fun j => k2S (kS (qs (Qr A0 b) (fun j => A1 (ix2 0 j)) n.val) (l8 h j)) (aS (qs (Qr A0 b) (fun j => A1 (ix2 0 j)) n.val) (fun x => A4 (ix2 0 x)) (fun l x => A5 (ix2 l x)) (l8 h j)) (A8 (ix2 0 (l8 h j))))
      (fun j => A9 (ix2 h j)) (vS (qs (Qr A0 b) (fun j => A1 (ix2 0 j)) n.val) (l8 h j)) := by
  pointwise [boV, spr, sumV, hd_at, r_at, k2_at, v_at, boS]
theorem sg_at (b : Fin 32) (n : Fin 2048) (l : Fin 128) : sg A0 A1 (ix3 b n l) = Ideal.logistic (qs (Qr A0 b) (fun j => A1 (ix2 0 j)) n.val ⟨1664 + l.val, by omega⟩) := by
  pointwise [sg, one1, QS_at, Ideal.logistic]
theorem g_at (b : Fin 32) (n : Fin 2048) (x : Fin 512) : gV A0 A1 A6 (ix3 b n x) = gS (qs (Qr A0 b) (fun j => A1 (ix2 0 j)) n.val) (fun l x => A6 (ix2 l x)) x := by
  pointwise [gV, sg_at, gS]

theorem out_at (b : Fin 32) (n : Fin 2048) (h : Fin 8) (j : Fin 64) : outV A0 A1 A4 A5 A6 A8 A9 A10 A11 O (ix3 b n (l8 h j))
    = yS (fun j => O (ix4 n b h j)) (A10 (ix2 0 (l8 h j))) (A11 (ix2 0 (l8 h j)))
      (boS (fun j => rS (qs (Qr A0 b) (fun j => A1 (ix2 0 j)) n.val) (l8 h j))
      (fun j => k2S (kS (qs (Qr A0 b) (fun j => A1 (ix2 0 j)) n.val) (l8 h j)) (aS (qs (Qr A0 b) (fun j => A1 (ix2 0 j)) n.val) (fun x => A4 (ix2 0 x)) (fun l x => A5 (ix2 l x)) (l8 h j)) (A8 (ix2 0 (l8 h j))))
      (fun j => A9 (ix2 h j)) (vS (qs (Qr A0 b) (fun j => A1 (ix2 0 j)) n.val) (l8 h j)))
      (gS (qs (Qr A0 b) (fun j => A1 (ix2 0 j)) n.val) (fun l x => A6 (ix2 l x)) (l8 h j)) j := by
  pointwise [outV, un_at, nrm_at, row_at, bo_at, g_at, yS]
end

theorem out_eq (V0 : Valuation τ sig (Elt Ideal)) : out_main_v146 V0 = outV (V0 (Proc.devRef .tc main_arg0)) (V0 (Proc.devRef .tc main_arg1)) (V0 (Proc.devRef .tc main_arg4))
    (V0 (Proc.devRef .tc main_arg5)) (V0 (Proc.devRef .tc main_arg6)) (V0 (Proc.devRef .tc main_arg8)) (V0 (Proc.devRef .tc main_arg9)) (V0 (Proc.devRef .tc main_arg10)) (V0 (Proc.devRef .tc main_arg11)) (X8 V0) := by
  rw [out_main_v146]
  rfl

end Cert.RwkvEntry
end
-- ==== Proof.RwkvHead.lean ====
module

public import proofs.«01_k».proof.Proof.RwkvSpec

/-! The kernel's values before and after a chunk's recurrence, entry by entry. -/

@[expose] public section

set_option maxRecDepth 16384

noncomputable section

namespace Cert.RwkvHead
open Idealize.ShloMosaic Idealize.ShloMosaic.TcCoe Idealize.SL.Sem
open Cert.RwkvIdeal Cert.RwkvIdeal.Gen Cert.RwkvVec Cert.RwkvSpec

/-- The array that adds up the lanes of a head. -/
theorem ones_at (h h' : Fin 2) (i j : Fin 64) : (k0_pay11 : FVec Ideal S128x128 .bf16) (ix2 (ln h i) (ln h' j)) = if h = h' then 1 else 0 := by
  pointwise [k0_pay11, same_at]
  by_cases hh : h = h'
  · rw [if_pos hh, if_pos hh]
    show ((((1#1 : BitVec 1).setWidth 32).toInt : ℝ) : EReal) = 1
    simp
  · rw [if_neg hh, if_neg hh]
    show ((((0#1 : BitVec 1).setWidth 32).toInt : ℝ) : EReal) = 0
    simp

/-- The sums over heads, as the kernel builds them. -/
def hsV (X : FVec Ideal S64x512 .f32) : FVec Ideal S64x512 .f32 :=
  concatenate S64x512 1 [
    ⟨S64x128, matmul dot_S64x128_S128x128_S64x128_1_0_0_1_n_n none (truncf .bf16 (extractStridedSlice S64x128 ![0, 0] X slices_S64x512_o0_0_S64x128) bitsLt_bf16_f32) k0_pay11 (constant S64x128 .f32 0x00000000#32)⟩,
    ⟨S64x128, matmul dot_S64x128_S128x128_S64x128_1_0_0_1_n_n none (truncf .bf16 (extractStridedSlice S64x128 ![0, 128] X slices_S64x512_o0_128_S64x128) bitsLt_bf16_f32) k0_pay11 (constant S64x128 .f32 0x00000000#32)⟩,
    ⟨S64x128, matmul dot_S64x128_S128x128_S64x128_1_0_0_1_n_n none (truncf .bf16 (extractStridedSlice S64x128 ![0, 256] X slices_S64x512_o0_256_S64x128) bitsLt_bf16_f32) k0_pay11 (constant S64x128 .f32 0x00000000#32)⟩,
    ⟨S64x128, matmul dot_S64x128_S128x128_S64x128_1_0_0_1_n_n none (truncf .bf16 (extractStridedSlice S64x128 ![0, 384] X slices_S64x512_o0_384_S64x128) bitsLt_bf16_f32) k0_pay11 (constant S64x128 .f32 0x00000000#32)⟩]
    concatenates_S64x128_S64x128_S64x128_S64x128_S64x512_d1

theorem sum_ones (f : Fin 128 → EReal) (h : Fin 2) (j : Fin 64) :
    ∑ k, f k * (k0_pay11 : FVec Ideal S128x128 .bf16) (ix2 k (ln h j)) = ∑ l, f (ln h l) := by
  rw [sum_ln]
  simp only [ones_at]
  match h with
  | 0 => simp
  | 1 => simp

/-- Four arrays of a pair side by side. -/
def catV (A B C D : FVec Ideal S64x128 .f32) : FVec Ideal S64x512 .f32 :=
  concatenate S64x512 1 [⟨S64x128, A⟩, ⟨S64x128, B⟩, ⟨S64x128, C⟩, ⟨S64x128, D⟩] concatenates_S64x128_S64x128_S64x128_S64x128_S64x512_d1

theorem lp0 (k : Fin 128) : lp 0 k = ⟨k.val, by omega⟩ := Fin.ext (by simp [lp])
theorem lp1 (k : Fin 128) : lp 1 k = ⟨128 + k.val, by omega⟩ := Fin.ext (by simp [lp])
theorem lp2 (k : Fin 128) : lp 2 k = ⟨256 + k.val, by omega⟩ := Fin.ext (by simp [lp])
theorem lp3 (k : Fin 128) : lp 3 k = ⟨384 + k.val, by omega⟩ := Fin.ext (by simp [lp])

theorem cat0 (A B C D : FVec Ideal S64x128 .f32) (i : Fin 64) (k : Fin 128) : catV A B C D (ix2 i (lp 0 k)) = A (ix2 i k) := by
  rw [lp0]; pointwise [catV]
theorem cat1 (A B C D : FVec Ideal S64x128 .f32) (i : Fin 64) (k : Fin 128) : catV A B C D (ix2 i (lp 1 k)) = B (ix2 i k) := by
  rw [lp1]; pointwise [catV]
theorem cat2 (A B C D : FVec Ideal S64x128 .f32) (i : Fin 64) (k : Fin 128) : catV A B C D (ix2 i (lp 2 k)) = C (ix2 i k) := by
  rw [lp2]; pointwise [catV]
  rw [dif_neg (by omega), dif_neg (by omega), dif_pos (by omega)]
  exact congrArg (fun n => C (ix2 i n)) (Fin.ext (by simp only []; omega))
theorem cat3 (A B C D : FVec Ideal S64x128 .f32) (i : Fin 64) (k : Fin 128) : catV A B C D (ix2 i (lp 3 k)) = D (ix2 i k) := by
  rw [lp3]; pointwise [catV]
  rw [dif_neg (by omega), dif_neg (by omega), dif_neg (by omega)]
  exact congrArg (fun n => D (ix2 i n)) (Fin.ext (by simp only []; omega))

theorem sl0_at (X : FVec Ideal S64x512 .f32) (i : Fin 64) (k : Fin 128) : sl0 X (ix2 i k) = X (ix2 i (lp 0 k)) := by
  rw [lp0]; pointwise [sl0]
theorem sl1_at (X : FVec Ideal S64x512 .f32) (i : Fin 64) (k : Fin 128) : sl1 X (ix2 i k) = X (ix2 i (lp 1 k)) := by
  rw [lp1]; pointwise [sl1]
theorem sl2_at (X : FVec Ideal S64x512 .f32) (i : Fin 64) (k : Fin 128) : sl2 X (ix2 i k) = X (ix2 i (lp 2 k)) := by
  rw [lp2]; pointwise [sl2]
theorem sl3_at (X : FVec Ideal S64x512 .f32) (i : Fin 64) (k : Fin 128) : sl3 X (ix2 i k) = X (ix2 i (lp 3 k)) := by
  rw [lp3]; pointwise [sl3]
theorem se0_at (X : FVec Ideal S1x512 .f32) (k : Fin 128) : se0 X (ix2 0 k) = X (ix2 0 (lp 0 k)) := by
  rw [lp0]; pointwise [se0]
theorem se1_at (X : FVec Ideal S1x512 .f32) (k : Fin 128) : se1 X (ix2 0 k) = X (ix2 0 (lp 1 k)) := by
  rw [lp1]; pointwise [se1]
theorem se2_at (X : FVec Ideal S1x512 .f32) (k : Fin 128) : se2 X (ix2 0 k) = X (ix2 0 (lp 2 k)) := by
  rw [lp2]; pointwise [se2]
theorem se3_at (X : FVec Ideal S1x512 .f32) (k : Fin 128) : se3 X (ix2 0 k) = X (ix2 0 (lp 3 k)) := by
  rw [lp3]; pointwise [se3]

/-- A pair's lanes times the array of ones. -/
def mmV (X : FVec Ideal S64x128 .f32) : FVec Ideal S64x128 .f32 :=
  matmul dot_S64x128_S128x128_S64x128_1_0_0_1_n_n none (truncf .bf16 X bitsLt_bf16_f32) k0_pay11 (constant S64x128 .f32 0x00000000#32)

theorem mmV_at (X : FVec Ideal S64x128 .f32) (i : Fin 64) (h : Fin 2) (j : Fin 64) : mmV X (ix2 i (ln h j)) = ∑ l, X (ix2 i (ln h l)) := by
  have e := sum_ones (fun k => X (ix2 i k)) h j
  pointwise [mmV]
  exact e

theorem hsV_eq (X : FVec Ideal S64x512 .f32) : hsV X = catV (mmV (sl0 X)) (mmV (sl1 X)) (mmV (sl2 X)) (mmV (sl3 X)) := rfl

/-- The sums over heads, lane by lane. -/
theorem hsV_at (X : FVec Ideal S64x512 .f32) (i : Fin 64) (p : Fin 4) (h : Fin 2) (j : Fin 64) :
    hsV X (ix2 i (lp p (ln h j))) = ∑ l, X (ix2 i (lp p (ln h l))) := by
  rw [hsV_eq]
  match p with
  | 0 => rw [cat0, mmV_at]; simp only [sl0_at]
  | 1 => rw [cat1, mmV_at]; simp only [sl1_at]
  | 2 => rw [cat2, mmV_at]; simp only [sl2_at]
  | 3 => rw [cat3, mmV_at]; simp only [sl3_at]

/-! ## The values before the recurrence -/

section
variable (q : Vec Ideal S1x64x1792 .f32) (pv : Vec Ideal S1x1x1792 .f32) (x1 : Vec Ideal S1x1792 .f32)

/-- The shifted rows of a chunk. -/
def qV : FVec Ideal S64x1792 .f32 := k0_pay18 (k0_pay13 q) k0_pay14 (k0_pay15 q) (k0_pay16 pv) x1

theorem row0_at (i : Fin 64) (j : Fin 1792) : k0_pay14 (ix2 i j) = if i = 0 then 1#1 else 0#1 := by
  pointwise [k0_pay14]
  clear j
  revert i
  decide +kernel

theorem roll_at (i : Fin 64) (hi : i ≠ 0) (j : Fin 1792) : (k0_pay15 q : FVec Ideal S64x1792 .f32) (ix2 i j) = q (ix3 0 ⟨i.val - 1, by omega⟩ j) := by
  pointwise [k0_pay15, k0_pay13]
  have := Fin.val_ne_of_ne hi
  simp only [Fin.val_zero] at this
  exact congrArg (fun n => q (ix3 0 n j)) (Fin.ext (by simp only []; omega))

variable {q pv x1} {Q : ℕ → Fin 1792 → EReal} {mu : Fin 1792 → EReal} {n0 : ℕ}

theorem qV_at (hq : ∀ (i : Fin 64) j, q (ix3 0 i j) = Q (n0 + i.val) j) (hp : ∀ j, pv (ix3 0 0 j) = prv Q n0 j) (hm : ∀ j, x1 (ix2 0 j) = mu j)
    (i : Fin 64) (j : Fin 1792) : qV q pv x1 (ix2 i j) = qs Q mu (n0 + i.val) j := by
  have hr := roll_at q i
  pointwise [qV, k0_pay18, row0_at, select_ite]
  rw [hm, qs]
  have e1 : (k0_pay13 q : FVec Ideal S64x1792 .f32) (ix2 i j) = Q (n0 + i.val) j := by
    rw [← hq]; pointwise [k0_pay13]
  have e2 : (k0_pay16 pv : FVec Ideal S64x1792 .f32) (ix2 i j) = prv Q n0 j := by
    rw [← hp]; pointwise [k0_pay16]
  rw [e1, e2]
  by_cases hi : i = 0
  · rw [if_pos hi, hi]; rfl
  · rw [if_neg hi, hr hi j, hq]
    have : n0 + i.val = (n0 + (i.val - 1)) + 1 := by
      have := Fin.val_ne_of_ne hi; simp at this; omega
    rw [this]; rfl

end

section
variable {v34 v39 v41 : FVec Ideal S64x1792 .f32} {v36 : IVec S64x1792 1} {x1 : Vec Ideal S1x1792 .f32} {s : Fin 64 → Fin 1792 → EReal}
  (hs : ∀ i j, k0_pay18 v34 v36 v39 v41 x1 (ix2 i j) = s i j)
include hs

theorem r_at (i : Fin 64) (x : Fin 512) : k0_pay19 v34 v36 v39 v41 x1 (ix2 i x) = rS (s i) x := by
  pointwise [k0_pay19, hs, rS]

theorem k_at (i : Fin 64) (x : Fin 512) : k0_pay20 v34 v36 v39 v41 x1 (ix2 i x) = kS (s i) x := by
  pointwise [k0_pay20, hs, kS]

theorem v_at (i : Fin 64) (x : Fin 512) : k0_pay21 v34 v36 v39 v41 x1 (ix2 i x) = vS (s i) x := by
  pointwise [k0_pay21, hs, vS]

theorem g_at {gup : Fin 128 → Fin 512 → EReal} {x5 : Vec Ideal S128x512 .bf16} (hg : ∀ l x, x5 (ix2 l x) = gup l x) (i : Fin 64) (x : Fin 512) :
    k0_pay25 v34 v36 v39 v41 x1 x5 (ix2 i x) = gS (s i) gup x := by
  pointwise [k0_pay25, hs, hg, gS]

theorem kk0_at {kk : Fin 512 → EReal} {x6 : Vec Ideal S1x512 .f32} (hk : ∀ x, x6 (ix2 0 x) = kk x) (i : Fin 64) (x : Fin 512) :
    k0_pay26 v34 v36 v39 v41 x1 x6 (ix2 i x) = kk0S (s i) kk x := by
  have e := k_at hs i x
  pointwise [k0_pay26, kk0S, hk]
  rw [e]

theorem kk_at {kk : Fin 512 → EReal} {x6 : Vec Ideal S1x512 .f32} (hk : ∀ x, x6 (ix2 0 x) = kk x) (i : Fin 64) (p : Fin 4) (h : Fin 2) (j : Fin 64) :
    k0_pay27 k0_pay11 (k0_pay26 v34 v36 v39 v41 x1 x6) (ix2 i (lp p (ln h j))) = kkS (s i) kk p h j := by
  have e := kk0_at hs hk
  generalize k0_pay26 v34 v36 v39 v41 x1 x6 = K at e ⊢
  show divf K (maximumf (sqrt (hsV (mulf K K))) (broadcast S64x512 (Scalar.ofBits .f32 0x2B8CBCCC#32))) (ix2 i (lp p (ln h j))) = _
  have e2 := hsV_at (mulf K K) i p h j
  pointwise [e2, e, kkS]

/-- The joined weights' columns. -/
def c0 (x : Fin 512) : Fin 1024 := ⟨x.val, by omega⟩
def c1 (x : Fin 512) : Fin 1024 := ⟨512 + x.val, by omega⟩

variable {wup aup : Fin 64 → Fin 512 → EReal} {x3 : Vec Ideal S128x1024 .bf16}
  (h00 : ∀ l (x : Fin 512), x3 (ix2 (ln 0 l) (c0 x)) = wup l x) (h10 : ∀ l (x : Fin 512), x3 (ix2 (ln 1 l) (c0 x)) = 0)
  (h01 : ∀ l (x : Fin 512), x3 (ix2 (ln 0 l) (c1 x)) = 0) (h11 : ∀ l (x : Fin 512), x3 (ix2 (ln 1 l) (c1 x)) = aup l x)

include h00 h10 in
theorem lw_at {w0 : Fin 512 → EReal} {x2 : Vec Ideal S1x512 .f32} (hw : ∀ x, x2 (ix2 0 x) = w0 x) (i : Fin 64) (x : Fin 512) :
    k0_pay23 k0_pay5 v34 v36 v39 v41 x1 x3 x2 (ix2 i x) = lwS (s i) w0 wup x := by
  simp only [c0, c1] at *
  pointwise [k0_pay23, k0_pay22, lwS, hw, hs]
  rw [sum_ln]
  simp only [head0_at, h00, h10, select_ite]
  simp [ln]

include h01 h11 in
theorem a_at {a0 : Fin 512 → EReal} {x4 : Vec Ideal S1x512 .f32} (hw : ∀ x, x4 (ix2 0 x) = a0 x) (i : Fin 64) (x : Fin 512) :
    k0_pay24 k0_pay5 v34 v36 v39 v41 x1 x3 x4 (ix2 i x) = aS (s i) a0 aup x := by
  simp only [c0, c1] at *
  pointwise [k0_pay24, k0_pay22, aS, hw, hs]
  rw [sum_ln]
  simp only [head0_at, h01, h11, select_ite]
  simp [ln, ← add_assoc]

end

section
variable {K A V R : FVec Ideal S64x512 .f32} {x7 x8 : Vec Ideal S1x512 .f32} {ka : Fin 512 → EReal}
  (hk : ∀ x, x7 (ix2 0 x) = ka x)
include hk

theorem k2_at (i : Fin 64) (x : Fin 512) : k0_pay28 K A x7 (ix2 i x) = k2S (K (ix2 i x)) (A (ix2 i x)) (ka x) := by
  pointwise [k0_pay28, k2S, hk]

theorem bo_at {rk : Fin 512 → EReal} (hr : ∀ x, x8 (ix2 0 x) = rk x) (i : Fin 64) (p : Fin 4) (h : Fin 2) (j : Fin 64) :
    k0_pay29 k0_pay11 R K V A x7 x8 (ix2 i (lp p (ln h j)))
      = boS (fun l => R (ix2 i (lp p (ln h l)))) (fun l => k2S (K (ix2 i (lp p (ln h l)))) (A (ix2 i (lp p (ln h l)))) (ka (lp p (ln h l)))) (fun l => rk (lp p (ln h l))) (V (ix2 i (lp p (ln h j)))) := by
  have e := k2_at (K := K) (A := A) hk
  show mulf (hsV (mulf (mulf R (k0_pay28 K A x7)) (broadcastTo S64x512 (shapeCast S1x512 x8 shapeCasts_S1x512_S1x512) broadcasts_S1x512_S64x512))) V (ix2 i (lp p (ln h j))) = _
  have e2 := hsV_at (mulf (mulf R (k0_pay28 K A x7)) (broadcastTo S64x512 (shapeCast S1x512 x8 shapeCasts_S1x512_S1x512) broadcasts_S1x512_S64x512)) i p h j
  generalize hsV _ = H at e2 ⊢
  pointwise [e2, e, boS, hr]
end

/-- The output of the mixer at one lane. -/
theorem y_at (o g bonus : FVec Ideal S64x512 .f32) (x9 x10 : Vec Ideal S1x512 .f32) (i : Fin 64) (p : Fin 4) (h : Fin 2) (j : Fin 64) :
    k0_pay153 k0_pay11 g bonus (subf o (mulf (hsV o) (broadcast S64x512 (Scalar.ofBits .f32 0x3C800000#32))))
        (mulf (subf o (mulf (hsV o) (broadcast S64x512 (Scalar.ofBits .f32 0x3C800000#32)))) (subf o (mulf (hsV o) (broadcast S64x512 (Scalar.ofBits .f32 0x3C800000#32))))) x9 x10 (ix2 i (lp p (ln h j)))
      = yS (fun l => o (ix2 i (lp p (ln h l)))) (x9 (ix2 0 (lp p (ln h j)))) (x10 (ix2 0 (lp p (ln h j)))) (bonus (ix2 i (lp p (ln h j)))) (g (ix2 i (lp p (ln h j)))) j := by
  have e : ∀ l, subf o (mulf (hsV o) (broadcast S64x512 (Scalar.ofBits .f32 0x3C800000#32))) (ix2 i (lp p (ln h l))) = dltS (fun l => o (ix2 i (lp p (ln h l)))) l := by
    intro l
    have e1 := hsV_at o i p h l
    generalize hsV o = H at e1 ⊢
    pointwise [e1, dltS]
  generalize subf o _ = D at e ⊢
  have e2 := hsV_at (mulf D D) i p h j
  show mulf (addf (addf (mulf (mulf D (rsqrt (addf (mulf (hsV (mulf D D)) (broadcast S64x512 (Scalar.ofBits .f32 0x3C800000#32))) (broadcast S64x512 (Scalar.ofBits .f32 0x3A27C5AC#32))))) (broadcastTo S64x512 x9 broadcasts_S1x512_S64x512)) (broadcastTo S64x512 x10 broadcasts_S1x512_S64x512)) bonus) g (ix2 i (lp p (ln h j))) = _
  generalize hsV _ = H at e2 ⊢
  pointwise [e2, e, yS]

/-! ## The decays' sums -/

theorem tril_at (i j : Fin 64) : (k0_pay12 : FVec Ideal S64x64 .bf16) (ix2 i j) = if j ≤ i then 1 else 0 := by
  pointwise [k0_pay12]
  have e : (BitVec.setWidth 32 (IntOp.cmpi CmpIPredicate.sge (BitVec.ofNat 32 i.val) (BitVec.ofNat 32 j.val))) = if j ≤ i then 1#32 else 0#32 := by
    revert i j
    decide +kernel
  rw [e]
  by_cases hij : j ≤ i
  · rw [if_pos hij, if_pos hij]
    show (((1#32 : BitVec 32).toInt : ℝ) : EReal) = 1
    simp
  · rw [if_neg hij, if_neg hij]
    show (((0#32 : BitVec 32).toInt : ℝ) : EReal) = 0
    simp

/-- The sums of the decays' logarithms over the steps of a chunk up to each. -/
def cum (lw : Fin 64 → Fin 512 → ℝ) (i : Fin 64) (x : Fin 512) : ℝ := ∑ s : Fin 64, if s ≤ i then lw s x else 0

section
variable {L : FVec Ideal S64x512 .f32} {lw : Fin 64 → Fin 512 → ℝ} (hl : ∀ i x, L (ix2 i x) = ((lw i x : ℝ) : EReal))
include hl

theorem cum_at (i : Fin 64) (x : Fin 512) : k0_pay30 k0_pay12 L (ix2 i x) = ((cum lw i x : ℝ) : EReal) := by
  pointwise [k0_pay30, tril_at, hl]
  rw [cum, coe_sum]
  have e : ∀ a : ℝ, (a : EReal) - (a : EReal) = 0 := fun a => by rw [← EReal.coe_sub, sub_self, EReal.coe_zero]
  simp only [e, mul_zero, Finset.sum_const_zero, add_zero]
  refine Finset.sum_congr rfl fun s _ => ?_
  split <;> simp

theorem we_at (x : Fin 512) : k0_pay37 k0_pay12 L (ix2 0 x) = ((Real.exp (cum lw 63 x) : ℝ) : EReal) := by
  have e := cum_at hl 63 x
  pointwise [k0_pay37, k0_pay31]
  exact (congrArg _ e).trans rfl

theorem ah_at {K : FVec Ideal S64x512 .f32} {i : Fin 64} {x : Fin 512} {kk : ℝ} (hk : K (ix2 i x) = ((kk : ℝ) : EReal)) :
    k0_pay33 k0_pay12 L K (ix2 i x) = ((-kk * Real.exp (cum lw i x - lw i x) : ℝ) : EReal) := by
  have e := cum_at hl i x
  pointwise [k0_pay33, hl, hk]
  rw [e, ← EReal.coe_sub, zero_sub, ← EReal.coe_neg, EReal.coe_mul]
  rfl

theorem bh_at {K A : FVec Ideal S64x512 .f32} {i : Fin 64} {x : Fin 512} {kk a : ℝ} (hk : K (ix2 i x) = ((kk : ℝ) : EReal)) (ha : A (ix2 i x) = ((a : ℝ) : EReal)) :
    k0_pay34 k0_pay12 L A K (ix2 i x) = ((kk * a * Real.exp (-cum lw i x) : ℝ) : EReal) := by
  have e := cum_at hl i x
  pointwise [k0_pay34, k0_pay32, hk, ha]
  rw [e, zero_sub, ← EReal.coe_neg, EReal.coe_mul, EReal.coe_mul]
  rfl

theorem kh_at {K : FVec Ideal S64x512 .f32} {i : Fin 64} {x : Fin 512} {k : ℝ} (hk : K (ix2 i x) = ((k : ℝ) : EReal)) :
    k0_pay35 k0_pay12 L K (ix2 i x) = ((k * Real.exp (-cum lw i x) : ℝ) : EReal) := by
  have e := cum_at hl i x
  pointwise [k0_pay35, k0_pay32, hk]
  rw [e, zero_sub, ← EReal.coe_neg, EReal.coe_mul]
  rfl

theorem rh_at {R : FVec Ideal S64x512 .f32} {i : Fin 64} {x : Fin 512} {r : ℝ} (hr : R (ix2 i x) = ((r : ℝ) : EReal)) :
    k0_pay36 k0_pay12 R L (ix2 i x) = ((r * Real.exp (cum lw i x) : ℝ) : EReal) := by
  have e := cum_at hl i x
  pointwise [k0_pay36, k0_pay31, hr]
  rw [e, EReal.coe_mul]
  rfl

end

end Cert.RwkvHead
end
-- ==== Proof.RwkvPoint.lean ====
module

public import proofs.«01_k».proof.Proof.RwkvHead
public import proofs.«01_k».proof.Proof.Gen.RwkvIdeal.Value
public import Idealize.ShloMosaic.Lib.Pointwise
public import Idealize.ShloMosaic.Lib.Pipeline.ValueKit
public import Idealize.ShloMosaic.Lib.Pipeline.ReadBack

/-! What one grid point of the mixer's kernel leaves: its output block, the heads' states and the last row. -/

@[expose] public section

set_option maxRecDepth 16384

noncomputable section

namespace Cert.RwkvPoint
open Idealize.ShloMosaic Idealize.ShloMosaic.TcCoe Idealize.SL.Sem
open Cert.RwkvIdeal Cert.RwkvIdeal.Gen Cert.RwkvIdeal.Value Cert.RwkvVec Cert.RwkvHead

/-- Where a state's four pieces lie. -/
abbrev R0 : Rect S1x4x128x128 := Rect.unit ![0, 0, 0, 0] ![1, 1, 128, 128] inb_S1x4x128x128_S1x1x128x128_0_0_0_0
abbrev R1 : Rect S1x4x128x128 := Rect.unit ![0, 1, 0, 0] ![1, 1, 128, 128] inb_S1x4x128x128_S1x1x128x128_0_1_0_0
abbrev R2 : Rect S1x4x128x128 := Rect.unit ![0, 2, 0, 0] ![1, 1, 128, 128] inb_S1x4x128x128_S1x1x128x128_0_2_0_0
abbrev R3 : Rect S1x4x128x128 := Rect.unit ![0, 3, 0, 0] ![1, 1, 128, 128] inb_S1x4x128x128_S1x1x128x128_0_3_0_0
theorem off0_1 (x : R0.shape.Idx) : R0.emb x ∉ R1.set := fun hm => by
  have h : 1 ≤ 0 + 1 * (x 1).val := (Rect.mem_set_unit.mp hm 1).1
  have h1 : (x 1).val < 1 := (x 1).isLt
  omega
theorem off0_2 (x : R0.shape.Idx) : R0.emb x ∉ R2.set := fun hm => by
  have h : 2 ≤ 0 + 1 * (x 1).val := (Rect.mem_set_unit.mp hm 1).1
  have h1 : (x 1).val < 1 := (x 1).isLt
  omega
theorem off0_3 (x : R0.shape.Idx) : R0.emb x ∉ R3.set := fun hm => by
  have h : 3 ≤ 0 + 1 * (x 1).val := (Rect.mem_set_unit.mp hm 1).1
  have h1 : (x 1).val < 1 := (x 1).isLt
  omega
theorem off1_2 (x : R1.shape.Idx) : R1.emb x ∉ R2.set := fun hm => by
  have h : 2 ≤ 1 + 1 * (x 1).val := (Rect.mem_set_unit.mp hm 1).1
  have h1 : (x 1).val < 1 := (x 1).isLt
  omega
theorem off1_3 (x : R1.shape.Idx) : R1.emb x ∉ R3.set := fun hm => by
  have h : 3 ≤ 1 + 1 * (x 1).val := (Rect.mem_set_unit.mp hm 1).1
  have h1 : (x 1).val < 1 := (x 1).isLt
  omega
theorem off2_3 (x : R2.shape.Idx) : R2.emb x ∉ R3.set := fun hm => by
  have h : 3 ≤ 2 + 1 * (x 1).val := (Rect.mem_set_unit.mp hm 1).1
  have h1 : (x 1).val < 1 := (x 1).isLt
  omega

section
variable (f0 : R0.shape.Idx → Elt Ideal .f32) (f1 : R1.shape.Idx → Elt Ideal .f32) (f2 : R2.shape.Idx → Elt Ideal .f32) (f3 : R3.shape.Idx → Elt Ideal .f32) (T : List (View.Piece (Elt Ideal) S1x4x128x128 .f32))
theorem four_3 (x : R3.shape.Idx) : View.canon (⟨R3, f3⟩ :: ⟨R2, f2⟩ :: ⟨R1, f1⟩ :: ⟨R0, f0⟩ :: T) (R3.emb x) = f3 x :=
  View.canon_cons_emb R3 f3 (⟨R2, f2⟩ :: ⟨R1, f1⟩ :: ⟨R0, f0⟩ :: T) x
theorem four_2 (x : R2.shape.Idx) : View.canon (⟨R3, f3⟩ :: ⟨R2, f2⟩ :: ⟨R1, f1⟩ :: ⟨R0, f0⟩ :: T) (R2.emb x) = f2 x :=
  (View.canon_cons_of_not_mem (⟨R3, f3⟩ : View.Piece (Elt Ideal) S1x4x128x128 .f32) (⟨R2, f2⟩ :: ⟨R1, f1⟩ :: ⟨R0, f0⟩ :: T) (off2_3 x)).trans <| View.canon_cons_emb R2 f2 (⟨R1, f1⟩ :: ⟨R0, f0⟩ :: T) x
theorem four_1 (x : R1.shape.Idx) : View.canon (⟨R3, f3⟩ :: ⟨R2, f2⟩ :: ⟨R1, f1⟩ :: ⟨R0, f0⟩ :: T) (R1.emb x) = f1 x :=
  (View.canon_cons_of_not_mem (⟨R3, f3⟩ : View.Piece (Elt Ideal) S1x4x128x128 .f32) (⟨R2, f2⟩ :: ⟨R1, f1⟩ :: ⟨R0, f0⟩ :: T) (off1_3 x)).trans <| (View.canon_cons_of_not_mem (⟨R2, f2⟩ : View.Piece (Elt Ideal) S1x4x128x128 .f32) (⟨R1, f1⟩ :: ⟨R0, f0⟩ :: T) (off1_2 x)).trans <| View.canon_cons_emb R1 f1 (⟨R0, f0⟩ :: T) x
theorem four_0 (x : R0.shape.Idx) : View.canon (⟨R3, f3⟩ :: ⟨R2, f2⟩ :: ⟨R1, f1⟩ :: ⟨R0, f0⟩ :: T) (R0.emb x) = f0 x :=
  (View.canon_cons_of_not_mem (⟨R3, f3⟩ : View.Piece (Elt Ideal) S1x4x128x128 .f32) (⟨R2, f2⟩ :: ⟨R1, f1⟩ :: ⟨R0, f0⟩ :: T) (off0_3 x)).trans <| (View.canon_cons_of_not_mem (⟨R2, f2⟩ : View.Piece (Elt Ideal) S1x4x128x128 .f32) (⟨R1, f1⟩ :: ⟨R0, f0⟩ :: T) (off0_2 x)).trans <| (View.canon_cons_of_not_mem (⟨R1, f1⟩ : View.Piece (Elt Ideal) S1x4x128x128 .f32) (⟨R0, f0⟩ :: T) (off0_1 x)).trans <| View.canon_cons_emb R0 f0 (T) x
end

section
variable (x0 : Vec Ideal S1x64x1792 .f32) (x1 : Vec Ideal S1x1792 .f32) (x2 : Vec Ideal S1x512 .f32) (x3 : Vec Ideal S128x1024 .bf16)
  (x4 : Vec Ideal S1x512 .f32) (x5 : Vec Ideal S128x512 .bf16) (x6 x7 x8 x9 x10 : Vec Ideal S1x512 .f32)
  (S : Vec Ideal S1x4x128x128 .f32) (pv : Vec Ideal S1x1x1792 .f32)

/-- The values of a chunk, from the point's blocks. -/
def pR : FVec Ideal S64x512 .f32 := k0_pay19 (k0_pay13 x0) k0_pay14 (k0_pay15 x0) (k0_pay16 pv) x1
def pK : FVec Ideal S64x512 .f32 := k0_pay20 (k0_pay13 x0) k0_pay14 (k0_pay15 x0) (k0_pay16 pv) x1
def pV : FVec Ideal S64x512 .f32 := k0_pay21 (k0_pay13 x0) k0_pay14 (k0_pay15 x0) (k0_pay16 pv) x1
def pL : FVec Ideal S64x512 .f32 := k0_pay23 k0_pay5 (k0_pay13 x0) k0_pay14 (k0_pay15 x0) (k0_pay16 pv) x1 x3 x2
def pA : FVec Ideal S64x512 .f32 := k0_pay24 k0_pay5 (k0_pay13 x0) k0_pay14 (k0_pay15 x0) (k0_pay16 pv) x1 x3 x4
def pG : FVec Ideal S64x512 .f32 := k0_pay25 (k0_pay13 x0) k0_pay14 (k0_pay15 x0) (k0_pay16 pv) x1 x5
def pKK : FVec Ideal S64x512 .f32 := k0_pay27 k0_pay11 (k0_pay26 (k0_pay13 x0) k0_pay14 (k0_pay15 x0) (k0_pay16 pv) x1 x6)
def pK2 : FVec Ideal S64x512 .f32 := k0_pay28 (pK x0 x1 pv) (pA x0 x1 x3 x4 pv) x7
def pBo : FVec Ideal S64x512 .f32 := k0_pay29 k0_pay11 (pR x0 x1 pv) (pK x0 x1 pv) (pV x0 x1 pv) (pA x0 x1 x3 x4 pv) x7 x8
def pAh : FVec Ideal S64x512 .f32 := k0_pay33 k0_pay12 (pL x0 x1 x2 x3 pv) (pKK x0 x1 x6 pv)
def pBh : FVec Ideal S64x512 .f32 := k0_pay34 k0_pay12 (pL x0 x1 x2 x3 pv) (pA x0 x1 x3 x4 pv) (pKK x0 x1 x6 pv)
def pKh : FVec Ideal S64x512 .f32 := k0_pay35 k0_pay12 (pL x0 x1 x2 x3 pv) (pK2 x0 x1 x3 x4 x7 pv)
def pRh : FVec Ideal S64x512 .f32 := k0_pay36 k0_pay12 (pR x0 x1 pv) (pL x0 x1 x2 x3 pv)
def pWe : FVec Ideal S1x512 .f32 := k0_pay37 k0_pay12 (pL x0 x1 x2 x3 pv)

/-- The state of a pair of heads. -/
def st0 : Vec Ideal S1x1x128x128 .f32 := View.ld S (Rect.unit ![0, 0, 0, 0] ![1, 1, 128, 128] inb_S1x4x128x128_S1x1x128x128_0_0_0_0)
def st1 : Vec Ideal S1x1x128x128 .f32 := View.ld S (Rect.unit ![0, 1, 0, 0] ![1, 1, 128, 128] inb_S1x4x128x128_S1x1x128x128_0_1_0_0)
def st2 : Vec Ideal S1x1x128x128 .f32 := View.ld S (Rect.unit ![0, 2, 0, 0] ![1, 1, 128, 128] inb_S1x4x128x128_S1x1x128x128_0_2_0_0)
def st3 : Vec Ideal S1x1x128x128 .f32 := View.ld S (Rect.unit ![0, 3, 0, 0] ![1, 1, 128, 128] inb_S1x4x128x128_S1x1x128x128_0_3_0_0)

/-- The heads' outputs, side by side. -/
def pO : FVec Ideal S64x512 .f32 := catV
  (o0V (pAh x0 x1 x2 x3 x6 pv) (pBh x0 x1 x2 x3 x4 x6 pv) (pKh x0 x1 x2 x3 x4 x7 pv) (pRh x0 x1 x2 x3 pv) (pV x0 x1 pv) (st0 S))
  (o1V (pAh x0 x1 x2 x3 x6 pv) (pBh x0 x1 x2 x3 x4 x6 pv) (pKh x0 x1 x2 x3 x4 x7 pv) (pRh x0 x1 x2 x3 pv) (pV x0 x1 pv) (st1 S))
  (o2V (pAh x0 x1 x2 x3 x6 pv) (pBh x0 x1 x2 x3 x4 x6 pv) (pKh x0 x1 x2 x3 x4 x7 pv) (pRh x0 x1 x2 x3 pv) (pV x0 x1 pv) (st2 S))
  (o3V (pAh x0 x1 x2 x3 x6 pv) (pBh x0 x1 x2 x3 x4 x6 pv) (pKh x0 x1 x2 x3 x4 x7 pv) (pRh x0 x1 x2 x3 pv) (pV x0 x1 pv) (st3 S))

/-- The heads' outputs without their means. -/
def dV (o : FVec Ideal S64x512 .f32) : FVec Ideal S64x512 .f32 := subf o (mulf (hsV o) (broadcast S64x512 (Scalar.ofBits .f32 0x3C800000#32)))

/-- The point's output block. -/
def pY : FVec Ideal S1x64x512 .f32 := k0_pay1 (k0_pay153 k0_pay11 (pG x0 x1 x5 pv) (pBo x0 x1 x3 x4 x7 x8 pv)
  (dV (pO x0 x1 x2 x3 x4 x6 x7 S pv)) (mulf (dV (pO x0 x1 x2 x3 x4 x6 x7 S pv)) (dV (pO x0 x1 x2 x3 x4 x6 x7 S pv))) x9 x10)

/-- The point's states, one piece to a pair of heads, over what `T` stored. -/
def pS (T : List (View.Piece (Elt Ideal) S1x4x128x128 .f32)) : Vec Ideal S1x4x128x128 .f32 := View.canon (
  ⟨Rect.unit ![0, 3, 0, 0] ![1, 1, 128, 128] inb_S1x4x128x128_S1x1x128x128_0_3_0_0, s3V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st3 S)⟩ ::
  ⟨Rect.unit ![0, 2, 0, 0] ![1, 1, 128, 128] inb_S1x4x128x128_S1x1x128x128_0_2_0_0, s2V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st2 S)⟩ ::
  ⟨Rect.unit ![0, 1, 0, 0] ![1, 1, 128, 128] inb_S1x4x128x128_S1x1x128x128_0_1_0_0, s1V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st1 S)⟩ ::
  ⟨Rect.unit ![0, 0, 0, 0] ![1, 1, 128, 128] inb_S1x4x128x128_S1x1x128x128_0_0_0_0, s0V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st0 S)⟩ :: T)

end

variable (m : (ℓ : Loc nD τ sig) → Buf (Elt Ideal) ℓ)

set_option maxHeartbeats 1000000 in
theorem out_B (c : Dev nD) (t : Fin cfg0.N) (acc) (h0 : ¬ t.val % 32 = 0) : (stAt0 m c t.val t.isLt acc).1
    = pY (iblk m c 0 t) (iblk m c 1 t) (iblk m c 2 t) (iblk m c 3 t) (iblk m c 4 t) (iblk m c 5 t) (iblk m c 6 t) (iblk m c 7 t) (iblk m c 8 t) (iblk m c 9 t) (iblk m c 10 t) acc.2.1 acc.2.2 := by
  rw [stAt0_B m c t acc h0]
  funext y
  frame_out
  simp only [read_unread_whole]
  rfl

set_option maxHeartbeats 1000000 in
theorem st_B (c : Dev nD) (t : Fin cfg0.N) (acc) (h0 : ¬ t.val % 32 = 0) : (stAt0 m c t.val t.isLt acc).2.1
    = pS (iblk m c 0 t) (iblk m c 1 t) (iblk m c 2 t) (iblk m c 3 t) (iblk m c 4 t) (iblk m c 6 t) (iblk m c 7 t) acc.2.1 acc.2.2 [] := by
  rw [stAt0_B m c t acc h0]
  funext y
  frame_out
  simp only [read_unread_whole]
  rfl

theorem row_B (c : Dev nD) (t : Fin cfg0.N) (acc) (h0 : ¬ t.val % 32 = 0) : (stAt0 m c t.val t.isLt acc).2.2
    = k0_pay17 (k0_pay13 (iblk m c 0 t)) := by
  rw [stAt0_B m c t acc h0]
  funext y
  frame_out

set_option maxHeartbeats 1000000 in
theorem row_A (c : Dev nD) (t : Fin cfg0.N) (acc) (h0 : t.val % 32 = 0) : (stAt0 m c t.val t.isLt acc).2.2
    = k0_pay17 (k0_pay13 (iblk m c 0 t)) := by
  rw [stAt0_A m c t acc h0]
  funext y
  frame_out [↓View.readCov_skip, ↓View.readCov_fill]

set_option maxHeartbeats 1000000 in
theorem out_A (c : Dev nD) (t : Fin cfg0.N) (acc) (h0 : t.val % 32 = 0) : (stAt0 m c t.val t.isLt acc).1
    = pY (iblk m c 0 t) (iblk m c 1 t) (iblk m c 2 t) (iblk m c 3 t) (iblk m c 4 t) (iblk m c 5 t) (iblk m c 6 t) (iblk m c 7 t) (iblk m c 8 t) (iblk m c 9 t) (iblk m c 10 t) (k0_pay2 : FVec Ideal S1x4x128x128 .f32) (k0_pay3 : FVec Ideal S1x1x1792 .f32) := by
  rw [stAt0_A m c t acc h0]
  funext y
  frame_out [↓View.readCov_skip, ↓View.readCov_fill]
  rfl

set_option maxHeartbeats 1000000 in
theorem st_A (c : Dev nD) (t : Fin cfg0.N) (acc) (h0 : t.val % 32 = 0) : ∃ T, (stAt0 m c t.val t.isLt acc).2.1
    = pS (iblk m c 0 t) (iblk m c 1 t) (iblk m c 2 t) (iblk m c 3 t) (iblk m c 4 t) (iblk m c 6 t) (iblk m c 7 t) (k0_pay2 : FVec Ideal S1x4x128x128 .f32) (k0_pay3 : FVec Ideal S1x1x1792 .f32) T := by
  refine ⟨[⟨Rect.unit ![0, 0, 0, 0] ![1, 4, 128, 128] inb_S1x4x128x128_S1x4x128x128_0_0_0_0, (k0_pay2 : FVec Ideal S1x4x128x128 .f32)⟩], ?_⟩
  rw [stAt0_A m c t acc h0]
  funext y
  frame_out [↓View.readCov_skip, ↓View.readCov_fill]
  rfl

end Cert.RwkvPoint
end
-- ==== Proof.RwkvStep.lean ====
module

public import proofs.«01_k».proof.Proof.RwkvPoint

/-! One grid point of the mixer's kernel against 64 steps of the recurrence. -/

@[expose] public section

set_option maxRecDepth 16384

noncomputable section

namespace Cert.RwkvPoint
open Idealize.ShloMosaic Idealize.ShloMosaic.TcCoe Idealize.SL.Sem
open Cert.RwkvIdeal Cert.RwkvIdeal.Gen Cert.RwkvIdeal.Value Cert.RwkvVec Cert.RwkvHead Cert.RwkvChunk Cert.RwkvSpec

section
variable (x0 : Vec Ideal S1x64x1792 .f32) (x1 : Vec Ideal S1x1792 .f32) (x2 : Vec Ideal S1x512 .f32) (x3 : Vec Ideal S128x1024 .bf16)
  (x4 : Vec Ideal S1x512 .f32) (x6 x7 : Vec Ideal S1x512 .f32)
  (S : Vec Ideal S1x4x128x128 .f32) (pv : Vec Ideal S1x1x1792 .f32) (T : List (View.Piece (Elt Ideal) S1x4x128x128 .f32))
theorem st0_pS (x : R0.shape.Idx) : pS x0 x1 x2 x3 x4 x6 x7 S pv T (R0.emb x) = s0V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st0 S) x := by
  unfold pS
  exact four_0 _ _ _ _ T x
theorem sIn0_at (Y : Vec Ideal S1x4x128x128 .f32) (i j : Fin 128) : sIn (st0 Y) (ix2 i j) = Y (R0.emb (ix4 0 0 i j : S1x1x128x128.Idx)) := by
  pointwise [sIn]
  rfl
theorem st1_pS (x : R1.shape.Idx) : pS x0 x1 x2 x3 x4 x6 x7 S pv T (R1.emb x) = s1V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st1 S) x := by
  unfold pS
  exact four_1 _ _ _ _ T x
theorem sIn1_at (Y : Vec Ideal S1x4x128x128 .f32) (i j : Fin 128) : sIn (st1 Y) (ix2 i j) = Y (R1.emb (ix4 0 0 i j : S1x1x128x128.Idx)) := by
  pointwise [sIn]
  rfl
theorem st2_pS (x : R2.shape.Idx) : pS x0 x1 x2 x3 x4 x6 x7 S pv T (R2.emb x) = s2V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st2 S) x := by
  unfold pS
  exact four_2 _ _ _ _ T x
theorem sIn2_at (Y : Vec Ideal S1x4x128x128 .f32) (i j : Fin 128) : sIn (st2 Y) (ix2 i j) = Y (R2.emb (ix4 0 0 i j : S1x1x128x128.Idx)) := by
  pointwise [sIn]
  rfl
theorem st3_pS (x : R3.shape.Idx) : pS x0 x1 x2 x3 x4 x6 x7 S pv T (R3.emb x) = s3V (pAh x0 x1 x2 x3 x6 pv) (pBh x0 x1 x2 x3 x4 x6 pv) (pKh x0 x1 x2 x3 x4 x7 pv) (pRh x0 x1 x2 x3 pv) (pV x0 x1 pv) (pWe x0 x1 x2 x3 pv) (st3 S) x := by
  unfold pS
  exact four_3 _ _ _ _ T x
theorem sIn3_at (Y : Vec Ideal S1x4x128x128 .f32) (i j : Fin 128) : sIn (st3 Y) (ix2 i j) = Y (R3.emb (ix4 0 0 i j : S1x1x128x128.Idx)) := by
  pointwise [sIn]
  rfl
theorem sOut_at (X : FVec Ideal S128x128 .f32) (i j : Fin 128) : sOut X (ix4 0 0 i j) = X (ix2 i j) := by
  pointwise [sOut]
end

/-- The lane `j` of head `h` of pair `p`. -/
abbrev la (p : Fin 4) (h : Fin 2) (j : Fin 64) : Fin 512 := lp p (ln h j)

section
variable (lw κ a k r v : ℕ → Fin 512 → ℝ)

/-- The states of a head over the reals. -/
def SR (p : Fin 4) (h : Fin 2) : ℕ → M
  | 0 => 0
  | n + 1 => fun i j => SR p h n i j * Real.exp (lw n (la p h j)) + (∑ l, SR p h n i l * -κ n (la p h l)) * (κ n (la p h j) * a n (la p h j)) + v n (la p h i) * k n (la p h j)

theorem pair {A R B K W : FVec Ideal S64x128 .f32} {we : FVec Ideal S1x128 .f32} {S : FVec Ideal S128x128 .f32} (p : Fin 4) (n0 : ℕ)
    (hA : ∀ (i : Fin 64) h j, A (ix2 i (ln h j)) = ((-κ (n0 + i.val) (la p h j) * Real.exp (cum (fun i => lw (n0 + i.val)) i (la p h j) - lw (n0 + i.val) (la p h j)) : ℝ) : EReal))
    (hR : ∀ (i : Fin 64) h j, R (ix2 i (ln h j)) = ((r (n0 + i.val) (la p h j) * Real.exp (cum (fun i => lw (n0 + i.val)) i (la p h j)) : ℝ) : EReal))
    (hB : ∀ (i : Fin 64) h j, B (ix2 i (ln h j)) = ((κ (n0 + i.val) (la p h j) * a (n0 + i.val) (la p h j) * Real.exp (-cum (fun i => lw (n0 + i.val)) i (la p h j)) : ℝ) : EReal))
    (hK : ∀ (i : Fin 64) h j, K (ix2 i (ln h j)) = ((k (n0 + i.val) (la p h j) * Real.exp (-cum (fun i => lw (n0 + i.val)) i (la p h j)) : ℝ) : EReal))
    (hW : ∀ (i : Fin 64) h j, W (ix2 i (ln h j)) = ((v (n0 + i.val) (la p h j) : ℝ) : EReal))
    (he : ∀ h j, we (ix2 0 (ln h j)) = ((Real.exp (cum (fun i => lw (n0 + i.val)) 63 (la p h j)) : ℝ) : EReal))
    (hS : Bd S (fun h => SR lw κ a k v p h n0)) :
    Pk (oV A R B K W S) (fun h i j => ∑ l, SR lw κ a k v p h (n0 + i.val + 1) j l * r (n0 + i.val) (la p h l))
    ∧ Bd (sV A R B K W we S) (fun h => SR lw κ a k v p h (n0 + 64)) := by
  have C : ∀ h, _ := fun h => chunk (fun t => SR lw κ a k v p h (n0 + t)) (fun t j => lw (n0 + t) (la p h j)) (fun t j => -κ (n0 + t) (la p h j))
    (fun t j => κ (n0 + t) (la p h j) * a (n0 + t) (la p h j)) (fun t j => k (n0 + t) (la p h j)) (fun t j => r (n0 + t) (la p h j)) (fun t j => v (n0 + t) (la p h j))
    (fun t _ i j => rfl) (fun i j => cum (fun i => lw (n0 + i.val)) i (la p h j)) (fun _ _ => rfl) _ _ _ _ _ (fun _ _ => rfl) (fun _ _ => rfl) (fun _ _ => rfl) (fun _ _ => rfl) (fun _ _ => rfl)
  have hA' : Pk A _ := fun h i j => hA i h j
  have hR' : Pk R _ := fun h i j => hR i h j
  have hB' : Pk B _ := fun h i j => hB i h j
  have hK' : Pk K _ := fun h i j => hK i h j
  have hW' : Pk W _ := fun h i j => hW i h j
  constructor
  · intro h i j
    exact (o_at hA' hR' hB' hK' hW' hS h i j).trans (congrArg _ ((C h).1 i j))
  · intro h i h' j
    refine (s_at hA' hB' hK' hW' he hS h i h' j).trans ?_
    exact if_congr Iff.rfl (congrArg _ ((C h).2 i j)) rfl

/-- The pairs' states at a step. -/
def Inv (S : Vec Ideal S1x4x128x128 .f32) (n : ℕ) : Prop :=
  Bd (sIn (st0 S)) (fun h => SR lw κ a k v 0 h n) ∧ Bd (sIn (st1 S)) (fun h => SR lw κ a k v 1 h n)
  ∧ Bd (sIn (st2 S)) (fun h => SR lw κ a k v 2 h n) ∧ Bd (sIn (st3 S)) (fun h => SR lw κ a k v 3 h n)
end

/-- The blocks of a point that begins at step `n0`. -/
structure Blk (Q : ℕ → Fin 1792 → EReal) (mu : Fin 1792 → EReal) (w0 : Fin 512 → EReal) (wup : Fin 64 → Fin 512 → EReal) (a0 : Fin 512 → EReal)
    (aup : Fin 64 → Fin 512 → EReal) (gup : Fin 128 → Fin 512 → EReal) (kk ka rk gw gb : Fin 512 → EReal)
    (x0 : Vec Ideal S1x64x1792 .f32) (x1 : Vec Ideal S1x1792 .f32) (x2 : Vec Ideal S1x512 .f32) (x3 : Vec Ideal S128x1024 .bf16)
    (x4 : Vec Ideal S1x512 .f32) (x5 : Vec Ideal S128x512 .bf16) (x6 x7 x8 x9 x10 : Vec Ideal S1x512 .f32) (n0 : ℕ) : Prop where
  hq : ∀ (i : Fin 64) j, x0 (ix3 0 i j) = Q (n0 + i.val) j
  hm : ∀ j, x1 (ix2 0 j) = mu j
  h2 : ∀ x, x2 (ix2 0 x) = w0 x
  h00 : ∀ l (x : Fin 512), x3 (ix2 (ln 0 l) (c0 x)) = wup l x
  h10 : ∀ l (x : Fin 512), x3 (ix2 (ln 1 l) (c0 x)) = 0
  h01 : ∀ l (x : Fin 512), x3 (ix2 (ln 0 l) (c1 x)) = 0
  h11 : ∀ l (x : Fin 512), x3 (ix2 (ln 1 l) (c1 x)) = aup l x
  h4 : ∀ x, x4 (ix2 0 x) = a0 x
  h5 : ∀ l x, x5 (ix2 l x) = gup l x
  h6 : ∀ x, x6 (ix2 0 x) = kk x
  h7 : ∀ x, x7 (ix2 0 x) = ka x
  h8 : ∀ x, x8 (ix2 0 x) = rk x
  h9 : ∀ x, x9 (ix2 0 x) = gw x
  h10' : ∀ x, x10 (ix2 0 x) = gb x

/-- The real numbers behind the rows. -/
structure Reals (s : ℕ → Fin 1792 → EReal) (w0 : Fin 512 → EReal) (wup : Fin 64 → Fin 512 → EReal) (a0 : Fin 512 → EReal)
    (aup : Fin 64 → Fin 512 → EReal) (kk ka : Fin 512 → EReal) (lw κ a k r v : ℕ → Fin 512 → ℝ) : Prop where
  hl : ∀ n x, lwS (s n) w0 wup x = ((lw n x : ℝ) : EReal)
  ha : ∀ n x, aS (s n) a0 aup x = ((a n x : ℝ) : EReal)
  hκ : ∀ n p h j, kkS (s n) kk p h j = ((κ n (la p h j) : ℝ) : EReal)
  hk : ∀ n x, k2S (kS (s n) x) (aS (s n) a0 aup x) (ka x) = ((k n x : ℝ) : EReal)
  hr : ∀ n x, rS (s n) x = ((r n x : ℝ) : EReal)
  hv : ∀ n x, vS (s n) x = ((v n x : ℝ) : EReal)

section
variable {Q : ℕ → Fin 1792 → EReal} {mu : Fin 1792 → EReal} {w0 : Fin 512 → EReal} {wup : Fin 64 → Fin 512 → EReal} {a0 : Fin 512 → EReal}
    {aup : Fin 64 → Fin 512 → EReal} {gup : Fin 128 → Fin 512 → EReal} {kk ka rk gw gb : Fin 512 → EReal}
    {x0 : Vec Ideal S1x64x1792 .f32} {x1 : Vec Ideal S1x1792 .f32} {x2 : Vec Ideal S1x512 .f32} {x3 : Vec Ideal S128x1024 .bf16}
    {x4 : Vec Ideal S1x512 .f32} {x5 : Vec Ideal S128x512 .bf16} {x6 x7 x8 x9 x10 : Vec Ideal S1x512 .f32} {n0 : ℕ}
    {lw κ a k r v : ℕ → Fin 512 → ℝ} {S : Vec Ideal S1x4x128x128 .f32} {pv : Vec Ideal S1x1x1792 .f32}

/-- A token's output lane. -/
def outS (s : Fin 1792 → EReal) (a0 : Fin 512 → EReal) (aup : Fin 64 → Fin 512 → EReal) (gup : Fin 128 → Fin 512 → EReal) (ka rk gw gb : Fin 512 → EReal)
    (o : Fin 64 → EReal) (p : Fin 4) (h : Fin 2) (j : Fin 64) : EReal :=
  yS o (gw (la p h j)) (gb (la p h j))
    (boS (fun l => rS s (la p h l)) (fun l => k2S (kS s (la p h l)) (aS s a0 aup (la p h l)) (ka (la p h l))) (fun l => rk (la p h l)) (vS s (la p h j)))
    (gS s gup (la p h j)) j

set_option maxHeartbeats 1000000 in
theorem point (B : Blk Q mu w0 wup a0 aup gup kk ka rk gw gb x0 x1 x2 x3 x4 x5 x6 x7 x8 x9 x10 n0)
    (H : Reals (qs Q mu) w0 wup a0 aup kk ka lw κ a k r v) (hp : ∀ j, pv (ix3 0 0 j) = prv Q n0 j) (hS : Inv lw κ a k v S n0) :
    (∀ T, Inv lw κ a k v (pS x0 x1 x2 x3 x4 x6 x7 S pv T) (n0 + 64))
    ∧ ∀ (i : Fin 64) p h j, pY x0 x1 x2 x3 x4 x5 x6 x7 x8 x9 x10 S pv (ix3 0 i (la p h j))
      = outS (qs Q mu (n0 + i.val)) a0 aup gup ka rk gw gb (fun l => ((∑ l', SR lw κ a k v p h (n0 + i.val + 1) l l' * r (n0 + i.val) (la p h l') : ℝ) : EReal)) p h j := by
  have hs : ∀ (i : Fin 64) j, k0_pay18 (k0_pay13 x0) k0_pay14 (k0_pay15 x0) (k0_pay16 pv) x1 (ix2 i j) = qs Q mu (n0 + i.val) j := qV_at B.hq hp B.hm
  have hr : ∀ (i : Fin 64) x, pR x0 x1 pv (ix2 i x) = rS (qs Q mu (n0 + i.val)) x := fun i x => r_at hs i x
  have hk : ∀ (i : Fin 64) x, pK x0 x1 pv (ix2 i x) = kS (qs Q mu (n0 + i.val)) x := fun i x => k_at hs i x
  have hv : ∀ (i : Fin 64) x, pV x0 x1 pv (ix2 i x) = vS (qs Q mu (n0 + i.val)) x := fun i x => v_at hs i x
  have hg : ∀ (i : Fin 64) x, pG x0 x1 x5 pv (ix2 i x) = gS (qs Q mu (n0 + i.val)) gup x := fun i x => g_at hs B.h5 i x
  have ha : ∀ (i : Fin 64) x, pA x0 x1 x3 x4 pv (ix2 i x) = aS (qs Q mu (n0 + i.val)) a0 aup x := fun i x => a_at hs B.h01 B.h11 B.h4 i x
  have hl : ∀ (i : Fin 64) x, pL x0 x1 x2 x3 pv (ix2 i x) = (((fun i : Fin 64 => lw (n0 + i.val)) i x : ℝ) : EReal) :=
    fun i x => (lw_at hs B.h00 B.h10 B.h2 i x).trans (H.hl _ x)
  have hκ : ∀ (i : Fin 64) p h j, pKK x0 x1 x6 pv (ix2 i (la p h j)) = ((κ (n0 + i.val) (la p h j) : ℝ) : EReal) :=
    fun i p h j => (kk_at hs B.h6 i p h j).trans (H.hκ _ p h j)
  have hk2 : ∀ (i : Fin 64) x, pK2 x0 x1 x3 x4 x7 pv (ix2 i x) = ((k (n0 + i.val) x : ℝ) : EReal) := fun i x => by
    rw [pK2, Cert.RwkvHead.k2_at B.h7, hk, ha]; exact H.hk _ x
  have hAh := fun (i : Fin 64) p h j => ah_at hl (hκ i p h j)
  have hBh := fun (i : Fin 64) p h j => bh_at hl (hκ i p h j) ((ha i (la p h j)).trans (H.ha _ _))
  have hKh := fun (i : Fin 64) p h j => kh_at hl (hk2 i (la p h j))
  have hRh := fun (i : Fin 64) p h j => rh_at hl ((hr i (la p h j)).trans (H.hr _ _))
  have hW := fun (i : Fin 64) p h j => (hv i (la p h j)).trans (H.hv _ _)
  have hE := fun x => we_at hl x
  obtain ⟨S0, S1, S2, S3⟩ := hS
  have P0 := pair lw κ a k r v (A := sl0 (pAh x0 x1 x2 x3 x6 pv)) (R := sl0 (pRh x0 x1 x2 x3 pv)) (B := sl0 (pBh x0 x1 x2 x3 x4 x6 pv)) (K := sl0 (pKh x0 x1 x2 x3 x4 x7 pv))
    (W := sl0 (pV x0 x1 pv)) (we := se0 (pWe x0 x1 x2 x3 pv)) 0 n0
    (fun i h j => (sl0_at _ _ _).trans (hAh i 0 h j)) (fun i h j => (sl0_at _ _ _).trans (hRh i 0 h j)) (fun i h j => (sl0_at _ _ _).trans (hBh i 0 h j))
    (fun i h j => (sl0_at _ _ _).trans (hKh i 0 h j)) (fun i h j => (sl0_at _ _ _).trans (hW i 0 h j)) (fun h j => (se0_at _ _).trans (hE _)) S0
  have P1 := pair lw κ a k r v (A := sl1 (pAh x0 x1 x2 x3 x6 pv)) (R := sl1 (pRh x0 x1 x2 x3 pv)) (B := sl1 (pBh x0 x1 x2 x3 x4 x6 pv)) (K := sl1 (pKh x0 x1 x2 x3 x4 x7 pv))
    (W := sl1 (pV x0 x1 pv)) (we := se1 (pWe x0 x1 x2 x3 pv)) 1 n0
    (fun i h j => (sl1_at _ _ _).trans (hAh i 1 h j)) (fun i h j => (sl1_at _ _ _).trans (hRh i 1 h j)) (fun i h j => (sl1_at _ _ _).trans (hBh i 1 h j))
    (fun i h j => (sl1_at _ _ _).trans (hKh i 1 h j)) (fun i h j => (sl1_at _ _ _).trans (hW i 1 h j)) (fun h j => (se1_at _ _).trans (hE _)) S1
  have P2 := pair lw κ a k r v (A := sl2 (pAh x0 x1 x2 x3 x6 pv)) (R := sl2 (pRh x0 x1 x2 x3 pv)) (B := sl2 (pBh x0 x1 x2 x3 x4 x6 pv)) (K := sl2 (pKh x0 x1 x2 x3 x4 x7 pv))
    (W := sl2 (pV x0 x1 pv)) (we := se2 (pWe x0 x1 x2 x3 pv)) 2 n0
    (fun i h j => (sl2_at _ _ _).trans (hAh i 2 h j)) (fun i h j => (sl2_at _ _ _).trans (hRh i 2 h j)) (fun i h j => (sl2_at _ _ _).trans (hBh i 2 h j))
    (fun i h j => (sl2_at _ _ _).trans (hKh i 2 h j)) (fun i h j => (sl2_at _ _ _).trans (hW i 2 h j)) (fun h j => (se2_at _ _).trans (hE _)) S2
  have P3 := pair lw κ a k r v (A := sl3 (pAh x0 x1 x2 x3 x6 pv)) (R := sl3 (pRh x0 x1 x2 x3 pv)) (B := sl3 (pBh x0 x1 x2 x3 x4 x6 pv)) (K := sl3 (pKh x0 x1 x2 x3 x4 x7 pv))
    (W := sl3 (pV x0 x1 pv)) (we := se3 (pWe x0 x1 x2 x3 pv)) 3 n0
    (fun i h j => (sl3_at _ _ _).trans (hAh i 3 h j)) (fun i h j => (sl3_at _ _ _).trans (hRh i 3 h j)) (fun i h j => (sl3_at _ _ _).trans (hBh i 3 h j))
    (fun i h j => (sl3_at _ _ _).trans (hKh i 3 h j)) (fun i h j => (sl3_at _ _ _).trans (hW i 3 h j)) (fun h j => (se3_at _ _).trans (hE _)) S3
  constructor
  · intro T
    refine ⟨?_, ?_, ?_, ?_⟩
    · intro h i h' j
      exact (sIn0_at _ _ _).trans ((st0_pS x0 x1 x2 x3 x4 x6 x7 S pv T _).trans ((sOut_at _ _ _).trans (P0.2 h i h' j)))
    · intro h i h' j
      exact (sIn1_at _ _ _).trans ((st1_pS x0 x1 x2 x3 x4 x6 x7 S pv T _).trans ((sOut_at _ _ _).trans (P1.2 h i h' j)))
    · intro h i h' j
      exact (sIn2_at _ _ _).trans ((st2_pS x0 x1 x2 x3 x4 x6 x7 S pv T _).trans ((sOut_at _ _ _).trans (P2.2 h i h' j)))
    · intro h i h' j
      exact (sIn3_at _ _ _).trans ((st3_pS x0 x1 x2 x3 x4 x6 x7 S pv T _).trans ((sOut_at _ _ _).trans (P3.2 h i h' j)))
  · intro i p h j
    have ho : ∀ l, pO x0 x1 x2 x3 x4 x6 x7 S pv (ix2 i (la p h l)) = ((∑ l', SR lw κ a k v p h (n0 + i.val + 1) l l' * r (n0 + i.val) (la p h l') : ℝ) : EReal) := fun l =>
      match p with
      | 0 => (cat0 _ _ _ _ _ _).trans (P0.1 h i l)
      | 1 => (cat1 _ _ _ _ _ _).trans (P1.1 h i l)
      | 2 => (cat2 _ _ _ _ _ _).trans (P2.1 h i l)
      | 3 => (cat3 _ _ _ _ _ _).trans (P3.1 h i l)
    have e : ∀ X : FVec Ideal S64x512 .f32, k0_pay1 X (ix3 0 i (la p h j)) = X (ix2 i (la p h j)) := fun X => by pointwise [k0_pay1]
    have hbo : pBo x0 x1 x3 x4 x7 x8 pv (ix2 i (la p h j)) = boS (fun l => rS (qs Q mu (n0 + i.val)) (la p h l)) (fun l => k2S (kS (qs Q mu (n0 + i.val)) (la p h l)) (aS (qs Q mu (n0 + i.val)) a0 aup (la p h l)) (ka (la p h l))) (fun l => rk (la p h l)) (vS (qs Q mu (n0 + i.val)) (la p h j)) := by
      rw [pBo, bo_at B.h7 B.h8]; simp only [hr, hk, ha, hv]
    rw [pY, e]
    refine (y_at (pO x0 x1 x2 x3 x4 x6 x7 S pv) (pG x0 x1 x5 pv) (pBo x0 x1 x3 x4 x7 x8 pv) x9 x10 i p h j).trans ?_
    rw [hbo, hg, B.h9, B.h10', outS]
    simp only [ho]

theorem zero_ite (h h' : Fin 2) (i j : Fin 64) : (0 : EReal) = if h = h' then (((0 : M) i j : ℝ) : EReal) else 0 := by
  split <;> simp

theorem inv_zero : Inv lw κ a k v (k0_pay2 : FVec Ideal S1x4x128x128 .f32) 0 := by
  refine ⟨?_, ?_, ?_, ?_⟩ <;> intro h i h' j
  · rw [sIn0_at]; pointwise [k0_pay2, SR]; exact zero_ite h h' i j
  · rw [sIn1_at]; pointwise [k0_pay2, SR]; exact zero_ite h h' i j
  · rw [sIn2_at]; pointwise [k0_pay2, SR]; exact zero_ite h h' i j
  · rw [sIn3_at]; pointwise [k0_pay2, SR]; exact zero_ite h h' i j

theorem row_zero (j : Fin 1792) : (k0_pay3 : FVec Ideal S1x1x1792 .f32) (ix3 0 0 j) = prv Q 0 j := by
  pointwise [k0_pay3, prv]

theorem row_last (hq : ∀ (i : Fin 64) j, x0 (ix3 0 i j) = Q (n0 + i.val) j) (j : Fin 1792) : (k0_pay17 (k0_pay13 x0) : FVec Ideal S1x1x1792 .f32) (ix3 0 0 j) = prv Q (n0 + 64) j := by
  have := hq 63 j
  pointwise [k0_pay17, k0_pay13]
  exact this
end

end Cert.RwkvPoint
end
-- ==== Proof.RwkvBlk.lean ====
module

public import proofs.«01_k».proof.Proof.RwkvStep
public import proofs.«01_k».proof.Proof.RwkvEntry

/-! The blocks of a grid point, as parts of the launch's arrays. -/

@[expose] public section

set_option maxRecDepth 16384

noncomputable section

namespace Cert.RwkvPoint
open Idealize.ShloMosaic Idealize.ShloMosaic.TcCoe Idealize.SL.Sem
open Cert.RwkvIdeal Cert.RwkvIdeal.Gen Cert.RwkvIdeal.Value Cert.RwkvVec Cert.RwkvHead Cert.RwkvSpec
open Cert.RwkvEntry (Qr)

variable (m : (ℓ : Loc nD τ sig) → Buf (Elt Ideal) ℓ)

theorem idx : ∀ t : Fin cfg0.N, win0_0.index t = ![t.val / 32, t.val % 32, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] :=
  (by decide +kernel : ∀ t : Fin grid0.N, _)

/-- The launch's arrays. -/
abbrev A0 (c : Dev nD) : FVec Ideal S32x2048x1792 .f32 := m ((c : Thread nD τ).loc main_arg0)
abbrev A1 (c : Dev nD) : FVec Ideal S1x1792 .f32 := m ((c : Thread nD τ).loc main_arg1)
abbrev A2 (c : Dev nD) : FVec Ideal S1x512 .f32 := m ((c : Thread nD τ).loc main_arg2)
abbrev A3 (c : Dev nD) : FVec Ideal S64x512 .f32 := m ((c : Thread nD τ).loc main_arg3)
abbrev A4 (c : Dev nD) : FVec Ideal S1x512 .f32 := m ((c : Thread nD τ).loc main_arg4)
abbrev A5 (c : Dev nD) : FVec Ideal S64x512 .f32 := m ((c : Thread nD τ).loc main_arg5)
abbrev A6 (c : Dev nD) : FVec Ideal S128x512 .f32 := m ((c : Thread nD τ).loc main_arg6)
abbrev A7 (c : Dev nD) : FVec Ideal S1x512 .f32 := m ((c : Thread nD τ).loc main_arg7)
abbrev A8 (c : Dev nD) : FVec Ideal S1x512 .f32 := m ((c : Thread nD τ).loc main_arg8)
abbrev A9 (c : Dev nD) : FVec Ideal S8x64 .f32 := m ((c : Thread nD τ).loc main_arg9)
abbrev A10 (c : Dev nD) : FVec Ideal S1x512 .f32 := m ((c : Thread nD τ).loc main_arg10)
abbrev A11 (c : Dev nD) : FVec Ideal S1x512 .f32 := m ((c : Thread nD τ).loc main_arg11)

/-- The joined weights. -/
theorem V3 (c : Dev nD) : V m c main_v4 = truncf (F := Ideal) .bf16
      (concatenate S128x1024 0
        [⟨S64x1024, concatenate S64x1024 1 [⟨S64x512, A3 m c⟩, ⟨S64x512, broadcastInDim S64x512 ![] bcast_S_S64x512 (constant S_ FTy.f32 0#32)⟩] concatenates_S64x512_S64x512_S64x1024_d1⟩,
          ⟨S64x1024, concatenate S64x1024 1 [⟨S64x512, broadcastInDim S64x512 ![] bcast_S_S64x512 (constant S_ FTy.f32 0#32)⟩, ⟨S64x512, A5 m c⟩] concatenates_S64x512_S64x512_S64x1024_d1⟩]
        concatenates_S64x1024_S64x1024_S128x1024_d0) bitsLt_bf16_f32 := by
  unfold V; after_results; try rfl

theorem V5 (c : Dev nD) : V m c main_v5 = truncf (F := Ideal) .bf16 (A6 m c) bitsLt_bf16_f32 := by
  unfold V; after_results; try rfl

theorem V8 (c : Dev nD) : V m c main_v6 = shapeCast S1x512 (A9 m c) shapeCasts_S8x64_S1x512 := by
  unfold V; after_results; try rfl

/-- The joined weights, entry by entry. -/
def wj (W A : FVec Ideal S64x512 .f32) : FVec Ideal S128x1024 .bf16 := truncf (F := Ideal) .bf16
      (concatenate S128x1024 0
        [⟨S64x1024, concatenate S64x1024 1 [⟨S64x512, W⟩, ⟨S64x512, broadcastInDim S64x512 ![] bcast_S_S64x512 (constant S_ FTy.f32 0#32)⟩] concatenates_S64x512_S64x512_S64x1024_d1⟩,
          ⟨S64x1024, concatenate S64x1024 1 [⟨S64x512, broadcastInDim S64x512 ![] bcast_S_S64x512 (constant S_ FTy.f32 0#32)⟩, ⟨S64x512, A⟩] concatenates_S64x512_S64x512_S64x1024_d1⟩]
        concatenates_S64x1024_S64x1024_S128x1024_d0) bitsLt_bf16_f32

theorem wj00 (W A : FVec Ideal S64x512 .f32) (l : Fin 64) (x : Fin 512) : wj W A (ix2 (ln 0 l) (c0 x)) = W (ix2 l x) := by
  pointwise [wj, ln, c0]
theorem wj10 (W A : FVec Ideal S64x512 .f32) (l : Fin 64) (x : Fin 512) : wj W A (ix2 (ln 1 l) (c0 x)) = 0 := by
  pointwise [wj, ln, c0]
theorem wj01 (W A : FVec Ideal S64x512 .f32) (l : Fin 64) (x : Fin 512) : wj W A (ix2 (ln 0 l) (c1 x)) = 0 := by
  pointwise [wj, ln, c1]
theorem wj11 (W A : FVec Ideal S64x512 .f32) (l : Fin 64) (x : Fin 512) : wj W A (ix2 (ln 1 l) (c1 x)) = A (ix2 l x) := by
  pointwise [wj, ln, c1]

theorem b3 (c : Dev nD) (t : Fin cfg0.N) (i : Fin 128) (j : Fin 1024) : iblk m c 3 t (ix2 i j) = wj (A3 m c) (A5 m c) (ix2 i j) := by
  rw [wj, ← V3]
  blk_point [iblk, idx t]

theorem mod2048 (t : ℕ) (i : Fin 64) : (64 * (t % 32) + i.val) % 2048 = t % 32 * 64 + i.val := by omega

theorem blk (c : Dev nD) (t : Fin cfg0.N) (b : Fin 32) (hb : t.val / 32 = b.val) :
    Blk (Qr (A0 m c) b) (fun j => A1 m c (ix2 0 j)) (fun x => A2 m c (ix2 0 x)) (fun l x => A3 m c (ix2 l x)) (fun x => A4 m c (ix2 0 x))
      (fun l x => A5 m c (ix2 l x)) (fun l x => A6 m c (ix2 l x)) (fun x => A7 m c (ix2 0 x)) (fun x => A8 m c (ix2 0 x))
      (fun x => A9 m c (ix2 ⟨x.val / 64, by omega⟩ ⟨x.val % 64, by omega⟩)) (fun x => A10 m c (ix2 0 x)) (fun x => A11 m c (ix2 0 x))
      (iblk m c 0 t) (iblk m c 1 t) (iblk m c 2 t) (iblk m c 3 t) (iblk m c 4 t) (iblk m c 5 t) (iblk m c 6 t) (iblk m c 7 t) (iblk m c 8 t) (iblk m c 9 t) (iblk m c 10 t)
      (64 * (t.val % 32)) where
  hq i j := by
    have e := mod2048 t.val i
    unfold Qr
    blk_point [iblk, V, idx t]
  hm j := by blk_point [iblk, V, idx t]
  h2 j := by blk_point [iblk, V, idx t]
  h00 l x := by rw [b3]; exact wj00 _ _ l x
  h10 l x := by rw [b3]; exact wj10 _ _ l x
  h01 l x := by rw [b3]; exact wj01 _ _ l x
  h11 l x := by rw [b3]; exact wj11 _ _ l x
  h4 j := by blk_point [iblk, V, idx t]
  h5 l x := by blk_point [iblk, V, idx t]
  h6 j := by blk_point [iblk, V, idx t]
  h7 j := by blk_point [iblk, V, idx t]
  h8 x := by blk_point [iblk, V, idx t]
  h9 j := by blk_point [iblk, V, idx t]
  h10' j := by blk_point [iblk, V, idx t]

end Cert.RwkvPoint
end
-- ==== Proof.RwkvFold.lean ====
module

public import proofs.«01_k».proof.Proof.RwkvBlk

/-! The mixer's kernel's result, entry by entry. -/

@[expose] public section

set_option maxRecDepth 16384

noncomputable section

namespace Cert.RwkvPoint
open Idealize.ShloMosaic Idealize.ShloMosaic.TcCoe Idealize.SL.Sem
open Cert.RwkvIdeal Cert.RwkvIdeal.Gen Cert.RwkvIdeal.Value Cert.RwkvVec Cert.RwkvHead Cert.RwkvSpec
open Cert.RwkvEntry (Qr)

/-- The rows are real where the inputs are. -/
theorem reals {Q : ℕ → Fin 1792 → EReal} {mu : Fin 1792 → EReal} (w0 : Fin 512 → EReal) (wup : Fin 64 → Fin 512 → EReal) (a0 : Fin 512 → EReal)
    (aup : Fin 64 → Fin 512 → EReal) (kk : Fin 512 → EReal) {ka : Fin 512 → EReal} (hQ : ∀ n (j : Fin 1792), j.val < 1536 → Re (Q n j)) (hm : ∀ j : Fin 1792, j.val < 1536 → Re (mu j)) (hka : ∀ x, Re (ka x)) :
    ∃ lw κ a k r v, Reals (qs Q mu) w0 wup a0 aup kk ka lw κ a k r v := by
  have hs : ∀ n (j : Fin 1792), j.val < 1536 → Re (qs Q mu n j) := fun n j hj => Re.qs (fun n => hQ n j hj) (hm j hj) n
  have h1 : ∀ n x, Re (lwS (qs Q mu n) w0 wup x) := fun n x => Re.lw _ _ _ _
  have h2 : ∀ n x, Re (aS (qs Q mu n) a0 aup x) := fun n x => Re.logistic _
  have h3 : ∀ n p h j, Re (kkS (qs Q mu n) kk p h j) := fun n p h j => Re.kk _ _ p h j
  have h4 : ∀ n x, Re (k2S (kS (qs Q mu n) x) (aS (qs Q mu n) a0 aup x) (ka x)) := fun n x => Re.k2 (hs n _ (by show 512 + x.val < 1536; omega)) (h2 n x) (hka x)
  have h5 : ∀ n x, Re (rS (qs Q mu n) x) := fun n x => hs n _ (by show x.val < 1536; omega)
  have h6 : ∀ n x, Re (vS (qs Q mu n) x) := fun n x => hs n _ (by show 1024 + x.val < 1536; omega)
  choose lw hl using h1
  choose a ha using h2
  choose κ hκ using h3
  choose k hk' using h4
  choose r hr using h5
  choose v hv using h6
  refine ⟨lw, fun n x => κ n ⟨x.val / 128, by omega⟩ ⟨x.val % 128 / 64, by omega⟩ ⟨x.val % 64, by omega⟩, a, k, r, v, hl, ha, ?_, hk', hr, hv⟩
  intro n p h j
  rw [hκ]
  have e1 : (la p h j).val = 128 * p.val + (64 * h.val + j.val) := rfl
  have hp : (⟨(la p h j).val / 128, by omega⟩ : Fin 4) = p := Fin.ext (by simp only [e1]; omega)
  have hh : (⟨(la p h j).val % 128 / 64, by omega⟩ : Fin 2) = h := Fin.ext (by simp only [e1]; omega)
  have hj : (⟨(la p h j).val % 64, by omega⟩ : Fin 64) = j := Fin.ext (by simp only [e1]; omega)
  simp only [hp, hh, hj]

variable (m : (ℓ : Loc nD τ sig) → Buf (Elt Ideal) ℓ)

section
variable {lw κ a k r v : ℕ → Fin 512 → ℝ}

/-- The bonus weights by lane. -/
def rkF (A : FVec Ideal S8x64 .f32) (x : Fin 512) : EReal := A (ix2 ⟨x.val / 64, by omega⟩ ⟨x.val % 64, by omega⟩)

/-- The value of the result's lane. -/
def resS (lw κ a k r v : ℕ → Fin 512 → ℝ) (A0 : FVec Ideal S32x2048x1792 .f32) (A1 : FVec Ideal S1x1792 .f32) (A4 : FVec Ideal S1x512 .f32) (A5 : FVec Ideal S64x512 .f32)
    (A6 : FVec Ideal S128x512 .f32) (A8 : FVec Ideal S1x512 .f32) (A9 : FVec Ideal S8x64 .f32) (A10 A11 : FVec Ideal S1x512 .f32)
    (b : Fin 32) (n : ℕ) (p : Fin 4) (h : Fin 2) (j : Fin 64) : EReal :=
  outS (qs (Qr A0 b) (fun j => A1 (ix2 0 j)) n) (fun x => A4 (ix2 0 x)) (fun l x => A5 (ix2 l x)) (fun l x => A6 (ix2 l x)) (fun x => A8 (ix2 0 x)) (rkF A9)
    (fun x => A10 (ix2 0 x)) (fun x => A11 (ix2 0 x)) (fun l => ((∑ l', SR lw κ a k v p h (n + 1) l l' * r n (la p h l') : ℝ) : EReal)) p h j

abbrev RealsOf (lw κ a k r v : ℕ → Fin 512 → ℝ) (A0 : FVec Ideal S32x2048x1792 .f32) (A1 : FVec Ideal S1x1792 .f32) (A2 : FVec Ideal S1x512 .f32) (A3 : FVec Ideal S64x512 .f32)
    (A4 : FVec Ideal S1x512 .f32) (A5 : FVec Ideal S64x512 .f32) (A7 A8 : FVec Ideal S1x512 .f32) (b : Fin 32) : Prop :=
  Reals (qs (Qr A0 b) (fun j => A1 (ix2 0 j))) (fun x => A2 (ix2 0 x)) (fun l x => A3 (ix2 l x)) (fun x => A4 (ix2 0 x)) (fun l x => A5 (ix2 l x))
    (fun x => A7 (ix2 0 x)) (fun x => A8 (ix2 0 x)) lw κ a k r v

/-- What a point leaves. -/
def Res (lw κ a k r v : ℕ → Fin 512 → ℝ) (c : Dev nD) (b : Fin 32) (n0 : ℕ) (y : S1x64x512.Idx → EReal) (S : S1x4x128x128.Idx → EReal) (w : S1x1x1792.Idx → EReal) : Prop :=
  (∀ (i : Fin 64) p h j, y (ix3 0 i (la p h j)) = resS lw κ a k r v (A0 m c) (A1 m c) (A4 m c) (A5 m c) (A6 m c) (A8 m c) (A9 m c) (A10 m c) (A11 m c) b (n0 + i.val) p h j)
  ∧ Inv lw κ a k v S (n0 + 64) ∧ ∀ j, w (ix3 0 0 j) = prv (Qr (A0 m c) b) (n0 + 64) j

theorem step (c : Dev nD) (b : Fin 32) (H : RealsOf lw κ a k r v (A0 m c) (A1 m c) (A2 m c) (A3 m c) (A4 m c) (A5 m c) (A7 m c) (A8 m c) b)
    (t : Fin cfg0.N) (hb : t.val / 32 = b.val) (acc)
    (h : ¬ t.val % 32 = 0 → Inv lw κ a k v acc.2.1 (64 * (t.val % 32)) ∧ ∀ j, acc.2.2 (ix3 0 0 j) = prv (Qr (A0 m c) b) (64 * (t.val % 32)) j) :
    Res m lw κ a k r v c b (64 * (t.val % 32)) (stAt0 m c t.val t.isLt acc).1 (stAt0 m c t.val t.isLt acc).2.1 (stAt0 m c t.val t.isLt acc).2.2 := by
  have B := blk m c t b hb
  by_cases h0 : t.val % 32 = 0
  · obtain ⟨T, hT⟩ := st_A m c t acc h0
    have P := point (pv := (k0_pay3 : FVec Ideal S1x1x1792 .f32)) (S := (k0_pay2 : FVec Ideal S1x4x128x128 .f32)) B H
      (fun j => by rw [h0]; exact row_zero j) (by rw [h0]; exact inv_zero)
    refine ⟨?_, ?_, ?_⟩
    · rw [out_A m c t acc h0]; exact P.2
    · rw [hT]; exact P.1 T
    · rw [row_A m c t acc h0]; exact row_last B.hq
  · have P := point (pv := acc.2.2) (S := acc.2.1) B H (h h0).2 (h h0).1
    refine ⟨?_, ?_, ?_⟩
    · rw [out_B m c t acc h0]; exact P.2
    · rw [st_B m c t acc h0]; exact P.1 []
    · rw [row_B m c t acc h0]; exact row_last B.hq

theorem fold (c : Dev nD) (b : Fin 32) (H : RealsOf lw κ a k r v (A0 m c) (A1 m c) (A2 m c) (A3 m c) (A4 m c) (A5 m c) (A7 m c) (A8 m c) b) :
    ∀ (q : ℕ) (hq : q < 32) (hn : 32 * b.val + q < cfg0.N), Res m lw κ a k r v c b (64 * q) (outsAt0 m c (32 * b.val + q) hn).1 (outsAt0 m c (32 * b.val + q) hn).2.1 (outsAt0 m c (32 * b.val + q) hn).2.2 := by
  have first : ∀ (n : ℕ) (hn : n < cfg0.N), ∃ acc, outsAt0 m c n hn = stAt0 m c n hn acc := fun n hn => by
    cases n with
    | zero => exact ⟨_, outsAt0_zero m c hn⟩
    | succ n => exact ⟨_, outsAt0_succ m c n hn⟩
  intro q
  induction q with
  | zero =>
    intro hq hn
    obtain ⟨acc, e⟩ := first _ hn
    have h1 : (32 * b.val + 0) / 32 = b.val := by omega
    have h2 : (32 * b.val + 0) % 32 = 0 := by omega
    have S := step m c b H ⟨_, hn⟩ h1 acc (fun h => absurd h2 h)
    rw [e]
    simp only [h2] at S
    exact S
  | succ q ih =>
    intro hq hn
    have I := ih (by omega) (by omega)
    have h1 : (32 * b.val + (q + 1)) / 32 = b.val := by omega
    have h2 : (32 * b.val + (q + 1)) % 32 = q + 1 := by omega
    have S := step m c b H ⟨32 * b.val + (q + 1), hn⟩ h1 (outsAt0 m c (32 * b.val + q) (by omega)) (fun _ => by
      simp only [h2]
      exact ⟨I.2.1, I.2.2⟩)
    simp only [h2] at S
    exact S

theorem ker_at (c : Dev nD) (b : Fin 32) (n : Fin 2048) (p : Fin 4) (h : Fin 2) (j : Fin 64)
    (H : RealsOf lw κ a k r v (A0 m c) (A1 m c) (A2 m c) (A3 m c) (A4 m c) (A5 m c) (A7 m c) (A8 m c) b) :
    G11 m c (ix3 b n (la p h j)) = resS lw κ a k r v (A0 m c) (A1 m c) (A4 m c) (A5 m c) (A6 m c) (A8 m c) (A9 m c) (A10 m c) (A11 m c) b n.val p h j := by
  have hN : cfg0.N = 1024 := N_0
  have hx : (la p h j).val < 512 := (la p h j).isLt
  have key : ∀ (t : ℕ) (ht : t < cfg0.N) (y : S1x64x512.Idx), t = 32 * b.val + n.val / 64 → y = ix3 0 ⟨n.val % 64, by omega⟩ (la p h j) →
      (outsAt0 m c t ht).1 y = resS lw κ a k r v (A0 m c) (A1 m c) (A4 m c) (A5 m c) (A6 m c) (A8 m c) (A9 m c) (A10 m c) (A11 m c) b n.val p h j := by
    intro t ht y e1 e2
    subst e1 e2
    have F := (fold m c b H (n.val / 64) (by omega) ht).1 ⟨n.val % 64, by omega⟩ p h j
    have e : 64 * (n.val / 64) + n.val % 64 = n.val := by omega
    simp only [e] at F
    exact F
  have hp : pt11Of (ix3 b n (la p h j)) = 32 * b.val + n.val / 64 := by
    show 32 * (b.val / 1 - 0) + 1 * (n.val / 64 - 0) + 1 * ((la p h j).val / 512 - 0) = _
    omega
  have ht : pt11Of (ix3 b n (la p h j)) < cfg0.N := by rw [hp, hN]; omega
  rw [G11, dif_pos ht, ← outsAt0_sweep]
  refine key _ ht _ hp (funext fun a => ?_)
  match a with
  | ⟨0, _⟩ => exact Fin.ext (Nat.mod_one _)
  | ⟨1, _⟩ => rfl
  | ⟨2, _⟩ => exact Fin.ext (Nat.mod_eq_of_lt hx)
end

end Cert.RwkvPoint
end
-- ==== Proof.RwkvRef.lean ====
module

public import proofs.«01_k».proof.Proof.RwkvOut
public import proofs.«01_k».proof.Proof.RwkvFold

/-! The reference's result, entry by entry. -/

@[expose] public section

set_option maxRecDepth 16384

noncomputable section

namespace Cert.RwkvEntry
open Idealize.ShloMosaic Idealize.ShloMosaic.TcCoe Idealize.SL.Sem
open Cert.RwkvRefIdeal Cert.RwkvRefIdeal.Gen Cert.RwkvRefIdeal.Value Cert.RwkvTrip Cert.RwkvSpec
open Cert.RwkvPoint (SR la RealsOf resS outS rkF)
open Cert.RwkvVec (coe_sum ln)
open Idealize.ShloMosaic.StableHlo Idealize.ShloMosaic.Pipeline

/-- The head numbered `2 p + h`. -/
def h8 (p : Fin 4) (h : Fin 2) : Fin 8 := ⟨2 * p.val + h.val, by omega⟩

theorem l8_h8 (p : Fin 4) (h : Fin 2) (j : Fin 64) : l8 (h8 p h) j = la p h j :=
  Fin.ext (by show 64 * (2 * p.val + h.val) + j.val = 128 * p.val + (64 * h.val + j.val); omega)

theorem seq_real (lw κ a k v : ℕ → Fin 512 → ℝ) (p : Fin 4) (h : Fin 2) {W K V KK A : ℕ → Fin 64 → EReal}
    (hW : ∀ n < 2048, ∀ j, W n j = ((Real.exp (lw n (la p h j)) : ℝ) : EReal)) (hK : ∀ n < 2048, ∀ j, K n j = ((k n (la p h j) : ℝ) : EReal))
    (hV : ∀ n < 2048, ∀ j, V n j = ((v n (la p h j) : ℝ) : EReal)) (hKK : ∀ n < 2048, ∀ j, KK n j = ((κ n (la p h j) : ℝ) : EReal))
    (hA : ∀ n < 2048, ∀ j, A n j = ((a n (la p h j) : ℝ) : EReal)) (n : ℕ) (hn : n ≤ 2048) (i j : Fin 64) :
    seq W K V KK A n i j = ((SR lw κ a k v p h n i j : ℝ) : EReal) := by
  induction n generalizing i j with
  | zero => exact EReal.coe_zero.symm
  | succ n ih =>
    have ih' := fun i j => ih (by omega) i j
    show next (seq W K V KK A n) (W n) (K n) (V n) (KK n) (A n) i j = _
    rw [next]
    simp only [ih', hW n (by omega), hK n (by omega), hV n (by omega), hKK n (by omega), hA n (by omega), ← EReal.coe_neg, ← EReal.coe_mul, ← coe_sum, ← EReal.coe_add]
    rfl

variable (m : (ℓ : Loc nD τ sig) → Buf (Elt Ideal) ℓ)

/-- The launch's arrays. -/
abbrev A0 (c : Dev nD) : FVec Ideal S32x2048x1792 .f32 := m ((c.tc : Thread nD τ).loc main_arg0)
abbrev A1 (c : Dev nD) : FVec Ideal S1x1792 .f32 := m ((c.tc : Thread nD τ).loc main_arg1)
abbrev A2 (c : Dev nD) : FVec Ideal S1x512 .f32 := m ((c.tc : Thread nD τ).loc main_arg2)
abbrev A3 (c : Dev nD) : FVec Ideal S64x512 .f32 := m ((c.tc : Thread nD τ).loc main_arg3)
abbrev A4 (c : Dev nD) : FVec Ideal S1x512 .f32 := m ((c.tc : Thread nD τ).loc main_arg4)
abbrev A5 (c : Dev nD) : FVec Ideal S64x512 .f32 := m ((c.tc : Thread nD τ).loc main_arg5)
abbrev A6 (c : Dev nD) : FVec Ideal S128x512 .f32 := m ((c.tc : Thread nD τ).loc main_arg6)
abbrev A7 (c : Dev nD) : FVec Ideal S1x512 .f32 := m ((c.tc : Thread nD τ).loc main_arg7)
abbrev A8 (c : Dev nD) : FVec Ideal S1x512 .f32 := m ((c.tc : Thread nD τ).loc main_arg8)
abbrev A9 (c : Dev nD) : FVec Ideal S8x64 .f32 := m ((c.tc : Thread nD τ).loc main_arg9)
abbrev A10 (c : Dev nD) : FVec Ideal S1x512 .f32 := m ((c.tc : Thread nD τ).loc main_arg10)
abbrev A11 (c : Dev nD) : FVec Ideal S1x512 .f32 := m ((c.tc : Thread nD τ).loc main_arg11)

section
variable {lw κ a k r v : ℕ → Fin 512 → ℝ} (c : Dev nD) (b : Fin 32)
  (H : RealsOf lw κ a k r v (A0 m c) (A1 m c) (A2 m c) (A3 m c) (A4 m c) (A5 m c) (A7 m c) (A8 m c) b)
include H

theorem row0 (n : Fin 2048) (p : Fin 4) (h : Fin 2) (j : Fin 64) : X0 (entryContents preI m c) (ix4 n b (h8 p h) j) = ((r n.val (la p h j) : ℝ) : EReal) := by
  rw [X0_eq, tr_at, hd_at, l8_h8, r_at]
  exact H.hr _ _
theorem row1 (n : Fin 2048) (p : Fin 4) (h : Fin 2) (j : Fin 64) : X1 (entryContents preI m c) (ix4 n b (h8 p h) j) = ((Real.exp (lw n.val (la p h j)) : ℝ) : EReal) := by
  rw [X1_eq, tr_at, hd_at, l8_h8, w_at]
  exact congrArg Ideal.exp (H.hl n.val _)
theorem row2 (n : Fin 2048) (p : Fin 4) (h : Fin 2) (j : Fin 64) : X2 (entryContents preI m c) (ix4 n b (h8 p h) j) = ((k n.val (la p h j) : ℝ) : EReal) := by
  rw [X2_eq, tr_at, hd_at, l8_h8, k2_at]
  exact H.hk _ _
theorem row3 (n : Fin 2048) (p : Fin 4) (h : Fin 2) (j : Fin 64) : X3 (entryContents preI m c) (ix4 n b (h8 p h) j) = ((v n.val (la p h j) : ℝ) : EReal) := by
  rw [X3_eq, tr_at, hd_at, l8_h8, v_at]
  exact H.hv _ _
theorem row4 (n : Fin 2048) (p : Fin 4) (h : Fin 2) (j : Fin 64) : X4 (entryContents preI m c) (ix4 n b (h8 p h) j) = ((κ n.val (la p h j) : ℝ) : EReal) := by
  rw [X4_eq, tr_at, kk_at]
  simp only [l8_h8]
  exact H.hκ _ p h j
theorem row5 (n : Fin 2048) (p : Fin 4) (h : Fin 2) (j : Fin 64) : X5 (entryContents preI m c) (ix4 n b (h8 p h) j) = ((a n.val (la p h j) : ℝ) : EReal) := by
  rw [X5_eq, tr_at, hd_at, l8_h8, a_at]
  exact H.ha _ _

omit H in
theorem rowOf_lt (x : FVec Ideal S2048x32x8x64 .f32) (h : Fin 8) (n : ℕ) (hn : n < 2048) (j : Fin 64) : rowOf x b h n j = x (ix4 ⟨n, hn⟩ b h j) :=
  congrArg (fun n => x (ix4 n b h j)) (Fin.ext (Nat.mod_eq_of_lt hn))

theorem seqE_real (p : Fin 4) (h : Fin 2) (n : ℕ) (hn : n ≤ 2048) (i j : Fin 64) :
    seqE (entryContents preI m c) b (h8 p h) n i j = ((SR lw κ a k v p h n i j : ℝ) : EReal) :=
  seq_real lw κ a k v p h (fun n hn j => (rowOf_lt b _ _ n hn j).trans (row1 m c b H ⟨n, hn⟩ p h j)) (fun n hn j => (rowOf_lt b _ _ n hn j).trans (row2 m c b H ⟨n, hn⟩ p h j))
    (fun n hn j => (rowOf_lt b _ _ n hn j).trans (row3 m c b H ⟨n, hn⟩ p h j)) (fun n hn j => (rowOf_lt b _ _ n hn j).trans (row4 m c b H ⟨n, hn⟩ p h j))
    (fun n hn j => (rowOf_lt b _ _ n hn j).trans (row5 m c b H ⟨n, hn⟩ p h j)) n hn i j

theorem ref_at (n : Fin 2048) (p : Fin 4) (h : Fin 2) (j : Fin 64) : out_main_v146 (STEP^[2048] (entryContents preI m c)) (ix3 b n (la p h j))
    = resS lw κ a k r v (A0 m c) (A1 m c) (A4 m c) (A5 m c) (A6 m c) (A8 m c) (A9 m c) (A10 m c) (A11 m c) b n.val p h j := by
  have L := (loop (entryContents preI m c) (ctr_entry m c) (X7_eq m c) 2048 le_rfl).2.2.2
  have hO : ∀ l, X8 (STEP^[2048] (entryContents preI m c)) (ix4 n b (h8 p h) l) = ((∑ l', SR lw κ a k v p h (n.val + 1) l l' * r n.val (la p h l') : ℝ) : EReal) := fun l => by
    rw [L n b (h8 p h) l n.isLt, coe_sum]
    refine Finset.sum_congr rfl fun l' _ => ?_
    rw [seqE_real m c b H p h _ (by omega), row0 m c b H, EReal.coe_mul]
  rw [out_eq, iter_main_arg0, iter_main_arg1, iter_main_arg4, iter_main_arg5, iter_main_arg6, iter_main_arg8, iter_main_arg9, iter_main_arg10, iter_main_arg11,
    ← l8_h8, out_at]
  simp only [hO, l8_h8]
  rw [resS, outS]
  have e9 : ∀ l, rkF (A9 m c) (la p h l) = A9 m c (ix2 (h8 p h) l) := fun l => by
    rw [rkF]
    have e1 : (la p h l).val = 128 * p.val + (64 * h.val + l.val) := rfl
    have h1 : (⟨(la p h l).val / 64, by omega⟩ : Fin 8) = h8 p h := Fin.ext (by show (la p h l).val / 64 = 2 * p.val + h.val; omega)
    have h2 : (⟨(la p h l).val % 64, by omega⟩ : Fin 64) = l := Fin.ext (by show (la p h l).val % 64 = l.val; omega)
    rw [h1, h2]
  simp only [e9]
end

end Cert.RwkvEntry
end
-- ==== Proof.RwkvClaim.lean ====
module

public import proofs.«01_k».proof.Defs
public import proofs.«01_k».proof.Proof.RwkvRef
public import proofs.«01_k».proof.Proof.RwkvFinite
public import Idealize.ShloMosaic.Lib.Claim

/-! The claim that the RWKV-7 mixer and its reference have one value. -/

@[expose] public section

set_option maxRecDepth 16384

noncomputable section

namespace Cert.RwkvClaim
open Idealize.ShloMosaic Idealize.ShloMosaic.TcCoe Idealize.SL.Sem Idealize.ShloMosaic.Pipeline Idealize.ShloMosaic.StableHlo
open Cert.RwkvPoint (la reals RealsOf)

/-- A channel is a pair of heads, a head of the pair and a place in the head. -/
theorem la_surj (x : Fin 512) : ∃ p h j, x = la p h j :=
  ⟨⟨x.val / 128, by omega⟩, ⟨x.val % 128 / 64, by omega⟩, ⟨x.val % 64, by omega⟩,
    Fin.ext (by show x.val = 128 * (x.val / 128) + (64 * (x.val % 128 / 64) + x.val % 64); omega)⟩

section
variable {m : (ℓ : Loc Cert.RwkvIdeal.nD Cert.RwkvIdeal.τ Cert.RwkvIdeal.sig) → Buf (Elt Ideal) ℓ}
  {m' : (ℓ : Loc Cert.RwkvRefIdeal.nD Cert.RwkvRefIdeal.τ Cert.RwkvRefIdeal.sig) → Buf (Elt Ideal) ℓ} {c : Dev Cert.RwkvIdeal.nD}

/-- The two results at an index, from memories holding the same arguments. -/
theorem same_at
    (h0 : Cert.RwkvEntry.A0 m' c = Cert.RwkvPoint.A0 m c) (h1 : Cert.RwkvEntry.A1 m' c = Cert.RwkvPoint.A1 m c)
    (h2 : Cert.RwkvEntry.A2 m' c = Cert.RwkvPoint.A2 m c) (h3 : Cert.RwkvEntry.A3 m' c = Cert.RwkvPoint.A3 m c)
    (h4 : Cert.RwkvEntry.A4 m' c = Cert.RwkvPoint.A4 m c) (h5 : Cert.RwkvEntry.A5 m' c = Cert.RwkvPoint.A5 m c)
    (h6 : Cert.RwkvEntry.A6 m' c = Cert.RwkvPoint.A6 m c) (h7 : Cert.RwkvEntry.A7 m' c = Cert.RwkvPoint.A7 m c)
    (h8 : Cert.RwkvEntry.A8 m' c = Cert.RwkvPoint.A8 m c) (h9 : Cert.RwkvEntry.A9 m' c = Cert.RwkvPoint.A9 m c)
    (h10 : Cert.RwkvEntry.A10 m' c = Cert.RwkvPoint.A10 m c) (h11 : Cert.RwkvEntry.A11 m' c = Cert.RwkvPoint.A11 m c)
    (hp : Cert.Pre_RwkvIdeal_finite m) (b : Fin 32) (n : Fin 2048) (x : Fin 512) :
    Cert.RwkvRefIdeal.Value.out_main_v146 (Cert.RwkvRefIdeal.Value.STEP^[2048] (entryContents Cert.RwkvRefIdeal.Value.preI m' c)) (ix3 b n x)
      = Cert.RwkvIdeal.Value.G11 m c (ix3 b n x) := by
  obtain ⟨p, h, j, rfl⟩ := la_surj x
  obtain ⟨q0, q1, q8⟩ := Cert.RwkvFinite.real (hp c)
  obtain ⟨lw, κ, a, k, r, v, H⟩ := reals (Q := Cert.RwkvEntry.Qr (Cert.RwkvPoint.A0 m c) b) (mu := fun j => Cert.RwkvPoint.A1 m c (ix2 0 j))
    (fun x => Cert.RwkvPoint.A2 m c (ix2 0 x)) (fun l x => Cert.RwkvPoint.A3 m c (ix2 l x)) (fun x => Cert.RwkvPoint.A4 m c (ix2 0 x))
    (fun l x => Cert.RwkvPoint.A5 m c (ix2 l x)) (fun x => Cert.RwkvPoint.A7 m c (ix2 0 x)) (ka := fun x => Cert.RwkvPoint.A8 m c (ix2 0 x))
    (fun n j hj => q0 _ _ j hj) q1 (fun x => q8 _)
  have H' : RealsOf lw κ a k r v (Cert.RwkvEntry.A0 m' c) (Cert.RwkvEntry.A1 m' c) (Cert.RwkvEntry.A2 m' c) (Cert.RwkvEntry.A3 m' c)
      (Cert.RwkvEntry.A4 m' c) (Cert.RwkvEntry.A5 m' c) (Cert.RwkvEntry.A7 m' c) (Cert.RwkvEntry.A8 m' c) b := by
    rw [h0, h1, h2, h3, h4, h5, h7, h8]; exact H
  refine (Cert.RwkvEntry.ref_at m' c b H' n p h j).trans ((Cert.RwkvPoint.ker_at m c b n p h j H).trans ?_).symm
  rw [h0, h1, h4, h5, h6, h8, h9, h10, h11]

end

theorem algebraic : Cert.algebraic_RwkvIdeal_RwkvRefIdeal_pre_finite := by
  intro m g m' g' hp hagree
  refine ⟨fun c => Cert.RwkvIdeal.Value.G11 m c, Cert.RwkvIdeal.Value.run m g, ?_⟩
  refine (θ_run Cert.RwkvRefIdeal.defs _ _).mono (fun r h c => ⟨(h c).1.trans ?_, (h c).2⟩) (Cert.RwkvRefIdeal.Value.run m' g')
  obtain ⟨h0, h1, h2, h3, h4, h5, h6, h7, h8, h9, h10, h11⟩ := hagree c
  funext i
  idx_vars i
  exact same_at h0 h1 h2 h3 h4 h5 h6 h7 h8 h9 h10 h11 hp _ _ _

end Cert.RwkvClaim

end
-- ==== Proof.lean ====
module

public import proofs.«01_k».proof.Defs
public import proofs.«01_k».proof.Proof.FfnClaim
public import proofs.«01_k».proof.Proof.InprojClaim
public import proofs.«01_k».proof.Proof.RwkvFrame
public import proofs.«01_k».proof.Proof.RwkvClaim
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts,
    Cert.Inproj.Gen.facts, Cert.InprojIdeal.Gen.facts, Cert.InprojRefIdeal.Gen.facts,
    Cert.Rwkv.Gen.facts, Cert.RwkvIdeal.Gen.facts, Cert.RwkvRefIdeal.Gen.facts, Cert.RwkvFinite.facts,
    Cert.FfnClaim.frame_bits, Cert.FfnClaim.frame_ideal, Cert.FfnClaim.frame_ref,
    Cert.InprojClaim.frame_bits, Cert.InprojClaim.frame_ideal, Cert.InprojClaim.frame_ref,
    Cert.RwkvFrame.frame_bits, Cert.RwkvFrame.frame_ideal, Cert.RwkvFrame.frame_ideal_finite,
    Cert.RwkvFrame.frame_ref, Cert.RwkvFrame.frame_ref_finite,
    trivial, Cert.FfnClaim.algebraic, trivial, Cert.InprojClaim.algebraic, trivial, Cert.RwkvClaim.algebraic⟩

end Cert.Proof

end
